-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S1000x4 : Shape := ⟨2, ![1000, 4]⟩
abbrev S1000x151 : Shape := ⟨2, ![1000, 151]⟩
abbrev S1000x1024 : Shape := ⟨2, ![1000, 1024]⟩
abbrev S150x256 : Shape := ⟨2, ![150, 256]⟩
abbrev S256 : Shape := ⟨1, ![256]⟩
abbrev S256x1024 : Shape := ⟨2, ![256, 1024]⟩
abbrev S1024 : Shape := ⟨1, ![1024]⟩
abbrev S_ : Shape := ⟨0, ![]⟩
abbrev S1024x150 : Shape := ⟨2, ![1024, 150]⟩
abbrev S1000x150 : Shape := ⟨2, ![1000, 150]⟩
abbrev S1 : Shape := ⟨1, ![1]⟩
abbrev S1024x1024 : Shape := ⟨2, ![1024, 1024]⟩
abbrev S1024x4 : Shape := ⟨2, ![1024, 4]⟩
abbrev S1x256 : Shape := ⟨2, ![1, 256]⟩
abbrev S1x1024 : Shape := ⟨2, ![1, 1024]⟩
abbrev S128x4 : Shape := ⟨2, ![128, 4]⟩
abbrev S128x1024 : Shape := ⟨2, ![128, 1024]⟩
abbrev S1x128 : Shape := ⟨2, ![1, 128]⟩
abbrev S1024x8x128 : Shape := ⟨3, ![1024, 8, 128]⟩
abbrev S1024x256 : Shape := ⟨2, ![1024, 256]⟩
abbrev S8x128x1024 : Shape := ⟨3, ![8, 128, 1024]⟩
abbrev S8x128 : Shape := ⟨2, ![8, 128]⟩
abbrev S8x128x1 : Shape := ⟨3, ![8, 128, 1]⟩
abbrev S1x8x128 : Shape := ⟨3, ![1, 8, 128]⟩
abbrev S1x1x1 : Shape := ⟨3, ![1, 1, 1]⟩
abbrev S1x1 : Shape := ⟨2, ![1, 1]⟩
abbrev S1x1x8x128 : Shape := ⟨4, ![1, 1, 8, 128]⟩
abbrev S1x1x1x1 : Shape := ⟨4, ![1, 1, 1, 1]⟩
abbrev S128x128 : Shape := ⟨2, ![128, 128]⟩
abbrev S128 : Shape := ⟨1, ![128]⟩
abbrev S128x1 : Shape := ⟨2, ![128, 1]⟩
abbrev S128x1x4 : Shape := ⟨3, ![128, 1, 4]⟩
abbrev S128x2x4 : Shape := ⟨3, ![128, 2, 4]⟩
abbrev S128x1x1024 : Shape := ⟨3, ![128, 1, 1024]⟩
abbrev S128x3x1024 : Shape := ⟨3, ![128, 3, 1024]⟩

abbrev nBuf : Space → Nat
  | .hbm => 45
  | .vmem => 18
  | .smem => 0
  | _ => 0

abbrev bufTy : (tb : Table) → Fin (tcTables nBuf tb) → BufTy
  | .hbm, ⟨0, _⟩ => ⟨S1000x4, .f32⟩
  | .hbm, ⟨1, _⟩ => ⟨S1000x151, .f32⟩
  | .hbm, ⟨2, _⟩ => ⟨S1000x1024, .f32⟩
  | .hbm, ⟨3, _⟩ => ⟨S150x256, .f32⟩
  | .hbm, ⟨4, _⟩ => ⟨S256, .f32⟩
  | .hbm, ⟨5, _⟩ => ⟨S256x1024, .f32⟩
  | .hbm, ⟨6, _⟩ => ⟨S1024, .f32⟩
  | .hbm, ⟨7, _⟩ => ⟨S150x256, .f32⟩
  | .hbm, ⟨8, _⟩ => ⟨S256, .f32⟩
  | .hbm, ⟨9, _⟩ => ⟨S256x1024, .f32⟩
  | .hbm, ⟨10, _⟩ => ⟨S1024, .f32⟩
  | .hbm, ⟨11, _⟩ => ⟨S_, .f32⟩
  | .hbm, ⟨12, _⟩ => ⟨S1024x150, .f32⟩
  | .hbm, ⟨13, _⟩ => ⟨S1000x150, .f32⟩
  | .hbm, ⟨14, _⟩ => ⟨S_, .i32⟩
  | .hbm, ⟨15, _⟩ => ⟨S1, .i32⟩
  | .hbm, ⟨16, _⟩ => ⟨S1024x150, .f32⟩
  | .hbm, ⟨17, _⟩ => ⟨S_, .f32⟩
  | .hbm, ⟨18, _⟩ => ⟨S1024x1024, .f32⟩
  | .hbm, ⟨19, _⟩ => ⟨S_, .i32⟩
  | .hbm, ⟨20, _⟩ => ⟨S1, .i32⟩
  | .hbm, ⟨21, _⟩ => ⟨S1024x1024, .f32⟩
  | .hbm, ⟨22, _⟩ => ⟨S_, .f32⟩
  | .hbm, ⟨23, _⟩ => ⟨S1024x4, .f32⟩
  | .hbm, ⟨24, _⟩ => ⟨S_, .i32⟩
  | .hbm, ⟨25, _⟩ => ⟨S1, .i32⟩
  | .hbm, ⟨26, _⟩ => ⟨S1024x4, .f32⟩
  | .hbm, ⟨27, _⟩ => ⟨S1x256, .f32⟩
  | .hbm, ⟨28, _⟩ => ⟨S1x1024, .f32⟩
  | .hbm, ⟨29, _⟩ => ⟨S1x256, .f32⟩
  | .hbm, ⟨30, _⟩ => ⟨S1x1024, .f32⟩
  | .hbm, ⟨31, _⟩ => ⟨S128x4, .f32⟩
  | .hbm, ⟨32, _⟩ => ⟨S128x4, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S1x128, .f32⟩
  | .hbm, ⟨37, _⟩ => ⟨S128x1x4, .f32⟩
  | .hbm, ⟨38, _⟩ => ⟨S128x1x4, .f32⟩
  | .hbm, ⟨39, _⟩ => ⟨S128x2x4, .f32⟩
  | .hbm, ⟨40, _⟩ => ⟨S128x1x1024, .f32⟩
  | .hbm, ⟨41, _⟩ => ⟨S128x1x1024, .f32⟩
  | .hbm, ⟨42, _⟩ => ⟨S128x1x1024, .f32⟩
  | .hbm, ⟨43, _⟩ => ⟨S128x3x1024, .f32⟩
  | .hbm, ⟨44, _⟩ => ⟨S128, .f32⟩
  | .local _ .vmem, ⟨0, _⟩ => ⟨S1024x150, .f32⟩
  | .local _ .vmem, ⟨1, _⟩ => ⟨S1024x1024, .f32⟩
  | .local _ .vmem, ⟨2, _⟩ => ⟨S1024x4, .f32⟩
  | .local _ .vmem, ⟨3, _⟩ => ⟨S150x256, .f32⟩
  | .local _ .vmem, ⟨4, _⟩ => ⟨S1x256, .f32⟩
  | .local _ .vmem, ⟨5, _⟩ => ⟨S256x1024, .f32⟩
  | .local _ .vmem, ⟨6, _⟩ => ⟨S1x1024, .f32⟩
  | .local _ .vmem, ⟨7, _⟩ => ⟨S150x256, .f32⟩
  | .local _ .vmem, ⟨8, _⟩ => ⟨S1x256, .f32⟩
  | .local _ .vmem, ⟨9, _⟩ => ⟨S256x1024, .f32⟩
  | .local _ .vmem, ⟨10, _⟩ => ⟨S1x1024, .f32⟩
  | .local _ .vmem, ⟨11, _⟩ => ⟨S128x4, .f32⟩
  | .local _ .vmem, ⟨12, _⟩ => ⟨S128x4, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S1x128, .f32⟩
  | .local _ .vmem, ⟨17, _⟩ => ⟨S1024x8x128, .f32⟩
  | _, _ => ⟨S1000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32_40 : BitVec 32 := 128#32
  let v84 : BitVec 32 := Scalar.addi c0_i32 c128_i32_40
  let c1_i32 : BitVec 32 := 1#32
  ⟨c0_i32, v84, c1_i32⟩
def k0_off1 (v1672 : BitVec 32) : Fin 3 → Nat :=
  let v1673 : Index := Scalar.indexCast v1672
  let c0_345 : Index := 0#32
  let c0_346 : Index := 0#32
  ![v1673.toNat, 0, 0]

def k0_chk1 (v1672 : BitVec 32) : Prop :=
  (∀ a, (k0_off1 v1672) a + S1x8x128.size a ≤ S1024x8x128.size a)
theorem k0_off1_inb : ∀ (v1672 : BitVec 32) (k0_hw1 : k0_chk1 v1672), ∀ a, (k0_off1 v1672) a + S1x8x128.size a ≤ S1024x8x128.size a := fun v1672 k0_hw1 => k0_hw1

abbrev stage0_0 : Fin 1 → Memref sig .tc .vmem S1024x150 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S150x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S150x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ReferenceIdeal.lean ====
abbrev S1000x4 : Shape := ⟨2, ![1000, 4]⟩
abbrev S1000x151 : Shape := ⟨2, ![1000, 151]⟩
abbrev S1000x1024 : Shape := ⟨2, ![1000, 1024]⟩
abbrev S150x256 : Shape := ⟨2, ![150, 256]⟩
abbrev S256 : Shape := ⟨1, ![256]⟩
abbrev S256x1024 : Shape := ⟨2, ![256, 1024]⟩
abbrev S1024 : Shape := ⟨1, ![1024]⟩
abbrev S1000x150 : Shape := ⟨2, ![1000, 150]⟩
abbrev S1000x256 : Shape := ⟨2, ![1000, 256]⟩
abbrev S1x256 : Shape := ⟨2, ![1, 256]⟩
abbrev S_ : Shape := ⟨0, ![]⟩
abbrev S1x1024 : Shape := ⟨2, ![1, 1024]⟩
abbrev S1024x1000 : Shape := ⟨2, ![1024, 1000]⟩
abbrev S1000x1000 : Shape := ⟨2, ![1000, 1000]⟩
abbrev S1000000 : Shape := ⟨1, ![1000000]⟩
abbrev S128 : Shape := ⟨1, ![128]⟩
abbrev S128x1 : Shape := ⟨2, ![128, 1]⟩
abbrev S128x4 : Shape := ⟨2, ![128, 4]⟩
abbrev S128x2 : Shape := ⟨2, ![128, 2]⟩
abbrev S128x1x2 : Shape := ⟨3, ![128, 1, 2]⟩
abbrev S1x128x2 : Shape := ⟨3, ![1, 128, 2]⟩
abbrev S128x128x2 : Shape := ⟨3, ![128, 128, 2]⟩
abbrev S128x128x1 : Shape := ⟨3, ![128, 128, 1]⟩
abbrev S128x128 : Shape := ⟨2, ![128, 128]⟩
abbrev S1x128 : Shape := ⟨2, ![1, 128]⟩
abbrev S1 : Shape := ⟨1, ![1]⟩
abbrev S128x1x4 : Shape := ⟨3, ![128, 1, 4]⟩
abbrev S128x2x4 : Shape := ⟨3, ![128, 2, 4]⟩
abbrev S128x1x1 : Shape := ⟨3, ![128, 1, 1]⟩
abbrev S128x1024 : Shape := ⟨2, ![128, 1024]⟩
abbrev S128x1x1024 : Shape := ⟨3, ![128, 1, 1024]⟩
abbrev S128x3x1024 : Shape := ⟨3, ![128, 3, 1024]⟩

abbrev nBuf : Space → Nat
  | .hbm => 274
  | .vmem => 0
  | .smem => 0
  | _ => 0

abbrev hbmTy0_0 (i : Nat) : BufTy := match i % 128 with
  | 0 => ⟨S1000x4, .f32⟩
  | 1 => ⟨S1000x151, .f32⟩
  | 2 => ⟨S1000x1024, .f32⟩
  | 3 => ⟨S150x256, .f32⟩
  | 4 => ⟨S256, .f32⟩
  | 5 => ⟨S256x1024, .f32⟩
  | 6 => ⟨S1024, .f32⟩
  | 7 => ⟨S150x256, .f32⟩
  | 8 => ⟨S256, .f32⟩
  | 9 => ⟨S256x1024, .f32⟩
  | 10 => ⟨S1024, .f32⟩
  | 11 => ⟨S1000x150, .f32⟩
  | 12 => ⟨S1000x256, .f32⟩
  | 13 => ⟨S1x256, .f32⟩
  | 14 => ⟨S1000x256, .f32⟩
  | 15 => ⟨S1000x256, .f32⟩
  | 16 => ⟨S_, .f32⟩
  | 17 => ⟨S1000x256, .f32⟩
  | 18 => ⟨S1000x256, .f32⟩
  | 19 => ⟨S1000x1024, .f32⟩
  | 20 => ⟨S1x1024, .f32⟩
  | 21 => ⟨S1000x1024, .f32⟩
  | 22 => ⟨S1000x1024, .f32⟩
  | 23 => ⟨S1000x1024, .f32⟩
  | 24 => ⟨S1000x256, .f32⟩
  | 25 => ⟨S1x256, .f32⟩
  | 26 => ⟨S1000x256, .f32⟩
  | 27 => ⟨S1000x256, .f32⟩
  | 28 => ⟨S_, .f32⟩
  | 29 => ⟨S1000x256, .f32⟩
  | 30 => ⟨S1000x256, .f32⟩
  | 31 => ⟨S1000x1024, .f32⟩
  | 32 => ⟨S1x1024, .f32⟩
  | 33 => ⟨S1000x1024, .f32⟩
  | 34 => ⟨S1000x1024, .f32⟩
  | 35 => ⟨S1000x1024, .f32⟩
  | 36 => ⟨S1024x1000, .f32⟩
  | 37 => ⟨S1000x1000, .f32⟩
  | 38 => ⟨S_, .i1⟩
  | 39 => ⟨S1000x1000, .i1⟩
  | 40 => ⟨S1000x1000, .i32⟩
  | 41 => ⟨S_, .i32⟩
  | 42 => ⟨S1000x1000, .i32⟩
  | 43 => ⟨S1000x1000, .i32⟩
  | 44 => ⟨S1000x1000, .i32⟩
  | 45 => ⟨S1000x1000, .i1⟩
  | 46 => ⟨S_, .i1⟩
  | 47 => ⟨S1000x1000, .i1⟩
  | 48 => ⟨S1000x1000, .i1⟩
  | 49 => ⟨S_, .f32⟩
  | 50 => ⟨S_, .f32⟩
  | 51 => ⟨S1000x1000, .f32⟩
  | 52 => ⟨S1000x1000, .f32⟩
  | 53 => ⟨S1000x1000, .f32⟩
  | 54 => ⟨S1000x1000, .f32⟩
  | 55 => ⟨S_, .f32⟩
  | 56 => ⟨S1000x1000, .f32⟩
  | 57 => ⟨S1000x1000, .f32⟩
  | 58 => ⟨S_, .f32⟩
  | 59 => ⟨S1000x1000, .f32⟩
  | 60 => ⟨S1000x1000, .f32⟩
  | 61 => ⟨S1000x1000, .i32⟩
  | 62 => ⟨S1000x1000, .i32⟩
  | 63 => ⟨S_, .i32⟩
  | 64 => ⟨S1000x1000, .i32⟩
  | 65 => ⟨S1000x1000, .i32⟩
  | 66 => ⟨S1000x1000, .i1⟩
  | 67 => ⟨S_, .f32⟩
  | 68 => ⟨S_, .f32⟩
  | 69 => ⟨S1000x1000, .f32⟩
  | 70 => ⟨S1000x1000, .f32⟩
  | 71 => ⟨S1000000, .f32⟩
  | 72 => ⟨S128, .f32⟩
  | 73 => ⟨S128, .i32⟩
  | 74 => ⟨S_, .i32⟩
  | 75 => ⟨S_, .i32⟩
  | 76 => ⟨S128, .i32⟩
  | 77 => ⟨S128, .i32⟩
  | 78 => ⟨S128, .i32⟩
  | 79 => ⟨S_, .i32⟩
  | 80 => ⟨S128, .i32⟩
  | 81 => ⟨S128, .i1⟩
  | 82 => ⟨S128, .i32⟩
  | 83 => ⟨S128, .i32⟩
  | 84 => ⟨S_, .i32⟩
  | 85 => ⟨S128, .i32⟩
  | 86 => ⟨S128, .i1⟩
  | 87 => ⟨S128, .i1⟩
  | 88 => ⟨S_, .i32⟩
  | 89 => ⟨S128, .i32⟩
  | 90 => ⟨S128, .i32⟩
  | 91 => ⟨S128, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S128, .i32⟩
  | 99 => ⟨S128, .i32⟩
  | 100 => ⟨S_, .i32⟩
  | 101 => ⟨S128, .i32⟩
  | 102 => ⟨S128, .i1⟩
  | 103 => ⟨S_, .i32⟩
  | 104 => ⟨S128, .i32⟩
  | 105 => ⟨S128, .i1⟩
  | 106 => ⟨S_, .i32⟩
  | 107 => ⟨S_, .i1⟩
  | 108 => ⟨S128, .i1⟩
  | 109 => ⟨S128, .i1⟩
  | 110 => ⟨S128, .i1⟩
  | 111 => ⟨S128, .i32⟩
  | 112 => ⟨S128, .i32⟩
  | 113 => ⟨S128, .i32⟩
  | 114 => ⟨S_, .i32⟩
  | 115 => ⟨S128, .i32⟩
  | 116 => ⟨S128, .i1⟩
  | 117 => ⟨S_, .i32⟩
  | 118 => ⟨S128, .i32⟩
  | 119 => ⟨S128, .i32⟩
  | 120 => ⟨S128, .i32⟩
  | 121 => ⟨S128x1, .i32⟩
  | 122 => ⟨S128x4, .f32⟩
  | 123 => ⟨S_, .i32⟩
  | 124 => ⟨S128, .i32⟩
  | 125 => ⟨S128, .i1⟩
  | 126 => ⟨S_, .i32⟩
  | 127 => ⟨S128, .i32⟩
  | _ => ⟨S1000x4, .f32⟩

abbrev hbmTy0_1 (i : Nat) : BufTy := match i % 128 with
  | 0 => ⟨S128, .i32⟩
  | 1 => ⟨S128, .i32⟩
  | 2 => ⟨S128x1, .i32⟩
  | 3 => ⟨S128x4, .f32⟩
  | 4 => ⟨S128x2, .f32⟩
  | 5 => ⟨S128x2, .f32⟩
  | 6 => ⟨S128x2, .f32⟩
  | 7 => ⟨S128x2, .f32⟩
  | 8 => ⟨S128x2, .f32⟩
  | 9 => ⟨S128x2, .f32⟩
  | 10 => ⟨S128x4, .f32⟩
  | 11 => ⟨S128x1, .f32⟩
  | 12 => ⟨S128, .f32⟩
  | 13 => ⟨S128x1, .f32⟩
  | 14 => ⟨S128, .f32⟩
  | 15 => ⟨S128, .f32⟩
  | 16 => ⟨S128x1, .f32⟩
  | 17 => ⟨S128, .f32⟩
  | 18 => ⟨S128x1, .f32⟩
  | 19 => ⟨S128, .f32⟩
  | 20 => ⟨S128, .f32⟩
  | 21 => ⟨S128, .f32⟩
  | 22 => ⟨S128x2, .f32⟩
  | 23 => ⟨S128x1x2, .f32⟩
  | 24 => ⟨S128x2, .f32⟩
  | 25 => ⟨S1x128x2, .f32⟩
  | 26 => ⟨S128x128x2, .f32⟩
  | 27 => ⟨S128x128x2, .f32⟩
  | 28 => ⟨S128x128x2, .f32⟩
  | 29 => ⟨S128x2, .f32⟩
  | 30 => ⟨S128x1x2, .f32⟩
  | 31 => ⟨S128x2, .f32⟩
  | 32 => ⟨S1x128x2, .f32⟩
  | 33 => ⟨S128x128x2, .f32⟩
  | 34 => ⟨S128x128x2, .f32⟩
  | 35 => ⟨S128x128x2, .f32⟩
  | 36 => ⟨S128x128x2, .f32⟩
  | 37 => ⟨S_, .f32⟩
  | 38 => ⟨S_, .f32⟩
  | 39 => ⟨S128x128x2, .f32⟩
  | 40 => ⟨S128x128x2, .f32⟩
  | 41 => ⟨S128x128x1, .f32⟩
  | 42 => ⟨S128x128, .f32⟩
  | 43 => ⟨S128x128x1, .f32⟩
  | 44 => ⟨S128x128, .f32⟩
  | 45 => ⟨S128x128, .f32⟩
  | 46 => ⟨S128x1, .f32⟩
  | 47 => ⟨S1x128, .f32⟩
  | 48 => ⟨S128x128, .f32⟩
  | 49 => ⟨S128x128, .f32⟩
  | 50 => ⟨S128x128, .f32⟩
  | 51 => ⟨S128x128, .f32⟩
  | 52 => ⟨S_, .f32⟩
  | 53 => ⟨S128x128, .f32⟩
  | 54 => ⟨S128x128, .f32⟩
  | 55 => ⟨S128x128, .f32⟩
  | 56 => ⟨S_, .f32⟩
  | 57 => ⟨S128, .f32⟩
  | 58 => ⟨S_, .i32⟩
  | 59 => ⟨S_, .i32⟩
  | 60 => ⟨S128x128, .f32⟩
  | 61 => ⟨S_, .i32⟩
  | 62 => ⟨S_, .i32⟩
  | 63 => ⟨S128, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S1x128, .f32⟩
  | 83 => ⟨S128, .f32⟩
  | 84 => ⟨S_, .f32⟩
  | 85 => ⟨S128, .f32⟩
  | 86 => ⟨S128, .i1⟩
  | 87 => ⟨S128, .i32⟩
  | 88 => ⟨S_, .i32⟩
  | 89 => ⟨S128, .i32⟩
  | 90 => ⟨S128, .i1⟩
  | 91 => ⟨S128, .i1⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1, .f32⟩
  | 99 => ⟨S_, .f32⟩
  | 100 => ⟨S_, .f32⟩
  | 101 => ⟨S_, .i1⟩
  | 102 => ⟨S128, .i1⟩
  | 103 => ⟨S128, .i1⟩
  | 104 => ⟨S_, .f32⟩
  | 105 => ⟨S_, .f32⟩
  | 106 => ⟨S128, .f32⟩
  | 107 => ⟨S128, .f32⟩
  | 108 => ⟨S_, .i32⟩
  | 109 => ⟨S_, .i32⟩
  | 110 => ⟨S128x1x4, .f32⟩
  | 111 => ⟨S128x1x4, .f32⟩
  | 112 => ⟨S128x2x4, .f32⟩
  | 113 => ⟨S128x1x1, .f32⟩
  | 114 => ⟨S128x2x4, .f32⟩
  | 115 => ⟨S128x2x4, .f32⟩
  | 116 => ⟨S_, .i32⟩
  | 117 => ⟨S128, .i32⟩
  | 118 => ⟨S128, .i1⟩
  | 119 => ⟨S_, .i32⟩
  | 120 => ⟨S128, .i32⟩
  | 121 => ⟨S128, .i32⟩
  | 122 => ⟨S128, .i32⟩
  | 123 => ⟨S128x1, .i32⟩
  | 124 => ⟨S128x1024, .f32⟩
  | 125 => ⟨S_, .i32⟩
  | 126 => ⟨S128, .i32⟩
  | 127 => ⟨S128, .i1⟩
  | _ => ⟨S1000x4, .f32⟩

abbrev hbmTy0_2 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S128x1024, .f32⟩
  | 6 => ⟨S128x1024, .f32⟩
  | 7 => ⟨S_, .f32⟩
  | 8 => ⟨S128x1024, .f32⟩
  | 9 => ⟨S128x1024, .f32⟩
  | 10 => ⟨S128x1x1024, .f32⟩
  | 11 => ⟨S128x1x1024, .f32⟩
  | 12 => ⟨S128x1x1024, .f32⟩
  | 13 => ⟨S128x3x1024, .f32⟩
  | 14 => ⟨S128x1x1, .f32⟩
  | 15 => ⟨S128x3x1024, .f32⟩
  | 16 => ⟨S128x3x1024, .f32⟩
  | 17 => ⟨S128, .f32⟩
  | _ => ⟨S1000x4, .f32⟩

abbrev hbmTy (i : Nat) : BufTy := match i / 128 with
  | 0 => hbmTy0_0 i
  | 1 => hbmTy0_1 i
  | 2 => hbmTy0_2 i
  | _ => ⟨S1000x4, .f32⟩

abbrev bufTy : (tb : Table) → Fin (tcTables nBuf tb) → BufTy
  | .hbm, ⟨i, _⟩ => hbmTy i
  | _, _ => ⟨S1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_cst : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_0 : Ref sig .tc := ⟨.hbm, 46, rfl⟩
abbrev main_call2_v5 : Ref sig .tc := ⟨.hbm, 47, rfl⟩
abbrev main_v24 : Ref sig .tc := ⟨.hbm, 48, rfl⟩
abbrev main_cst : Ref sig .tc := ⟨.hbm, 49, rfl⟩
abbrev main_call3_v0 : Ref sig .tc := ⟨.hbm, 50, rfl⟩
abbrev main_call3_v1 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_0 : Ref sig .tc := ⟨.hbm, 55, rfl⟩
abbrev main_v28 : Ref sig .tc := ⟨.hbm, 56, rfl⟩
abbrev main_v29 : Ref sig .tc := ⟨.hbm, 57, rfl⟩
abbrev main_cst_1 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_2 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_call4_v0 : Ref sig .tc := ⟨.hbm, 68, rfl⟩
abbrev main_call4_v1 : Ref sig .tc := ⟨.hbm, 69, rfl⟩
abbrev main_v37 : Ref sig .tc := ⟨.hbm, 70, rfl⟩
abbrev main_v38 : Ref sig .tc := ⟨.hbm, 71, rfl⟩
abbrev main_values : Ref sig .tc := ⟨.hbm, 72, rfl⟩
abbrev main_indices : Ref sig .tc := ⟨.hbm, 73, rfl⟩
abbrev main_c_4 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_c : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_0 : Ref sig .tc := ⟨.hbm, 88, rfl⟩
abbrev main_call5_v12 : Ref sig .tc := ⟨.hbm, 89, rfl⟩
abbrev main_call5_v13 : Ref sig .tc := ⟨.hbm, 90, rfl⟩
abbrev main_v39 : Ref sig .tc := ⟨.hbm, 91, rfl⟩
abbrev main_c_5 : Ref sig .tc := ⟨.hbm, 92, rfl⟩
abbrev main_call6_v0 : Ref sig .tc := ⟨.hbm, 93, rfl⟩
abbrev main_call6_c : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_c_1 : Ref sig .tc := ⟨.hbm, 100, rfl⟩
abbrev main_call6_v5 : Ref sig .tc := ⟨.hbm, 101, rfl⟩
abbrev main_call6_v6 : Ref sig .tc := ⟨.hbm, 102, rfl⟩
abbrev main_call6_c_2 : Ref sig .tc := ⟨.hbm, 103, rfl⟩
abbrev main_call6_v7 : Ref sig .tc := ⟨.hbm, 104, rfl⟩
abbrev main_call6_v8 : Ref sig .tc := ⟨.hbm, 105, rfl⟩
abbrev main_call6_c_3 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_v12 : Ref sig .tc := ⟨.hbm, 110, rfl⟩
abbrev main_call6_v13 : Ref sig .tc := ⟨.hbm, 111, rfl⟩
abbrev main_call6_v14 : Ref sig .tc := ⟨.hbm, 112, rfl⟩
abbrev main_v40 : Ref sig .tc := ⟨.hbm, 113, rfl⟩
abbrev main_c_6 : Ref sig .tc := ⟨.hbm, 114, rfl⟩
abbrev main_v41 : Ref sig .tc := ⟨.hbm, 115, rfl⟩
abbrev main_v42 : Ref sig .tc := ⟨.hbm, 116, rfl⟩
abbrev main_c_7 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_c_8 : Ref sig .tc := ⟨.hbm, 123, rfl⟩
abbrev main_v48 : Ref sig .tc := ⟨.hbm, 124, rfl⟩
abbrev main_v49 : Ref sig .tc := ⟨.hbm, 125, rfl⟩
abbrev main_c_9 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_10 : Ref sig .tc := ⟨.hbm, 165, rfl⟩
abbrev main_call7_v0 : Ref sig .tc := ⟨.hbm, 166, rfl⟩
abbrev main_call7_v1 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_cst_11 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_cst_12 : Ref sig .tc := ⟨.hbm, 184, rfl⟩
abbrev main_v103 : Ref sig .tc := ⟨.hbm, 185, rfl⟩
abbrev main_c_13 : Ref sig .tc := ⟨.hbm, 186, rfl⟩
abbrev main_c_14 : Ref sig .tc := ⟨.hbm, 187, rfl⟩
abbrev main_v104_0 : Ref sig .tc := ⟨.hbm, 188, rfl⟩
abbrev main_v104_1 : Ref sig .tc := ⟨.hbm, 189, rfl⟩
abbrev main_v104_2 : Ref sig .tc := ⟨.hbm, 190, rfl⟩
abbrev main_v104_3 : Ref sig .tc := ⟨.hbm, 191, rfl⟩
abbrev main_while0c_c_23 : Ref sig .tc := ⟨.hbm, 192, rfl⟩
abbrev main_while0c_v136 : Ref sig .tc := ⟨.hbm, 193, rfl⟩
abbrev main_while0b_c_23 : Ref sig .tc := ⟨.hbm, 194, rfl⟩
abbrev main_while0b_v136 : Ref sig .tc := ⟨.hbm, 195, rfl⟩
abbrev main_while0b_v137 : Ref sig .tc := ⟨.hbm, 196, rfl⟩
abbrev main_while0b_c_24 : Ref sig .tc := ⟨.hbm, 197, rfl⟩
abbrev main_while0b_v138 : Ref sig .tc := ⟨.hbm, 198, rfl⟩
abbrev main_while0b_c_25 : Ref sig .tc := ⟨.hbm, 199, rfl⟩
abbrev main_while0b_v139 : Ref sig .tc := ⟨.hbm, 200, rfl⟩
abbrev main_while0b_v140 : Ref sig .tc := ⟨.hbm, 201, rfl⟩
abbrev main_while0b_c_26 : Ref sig .tc := ⟨.hbm, 202, rfl⟩
abbrev main_while0b_c_27 : Ref sig .tc := ⟨.hbm, 203, rfl⟩
abbrev main_while0b_v141 : Ref sig .tc := ⟨.hbm, 204, rfl⟩
abbrev main_while0b_c_28 : Ref sig .tc := ⟨.hbm, 205, rfl⟩
abbrev main_while0b_c_29 : Ref sig .tc := ⟨.hbm, 206, rfl⟩
abbrev main_while0b_v142 : Ref sig .tc := ⟨.hbm, 207, rfl⟩
abbrev main_while0b_c_30 : Ref sig .tc := ⟨.hbm, 208, rfl⟩
abbrev main_while0b_v143 : Ref sig .tc := ⟨.hbm, 209, rfl⟩
abbrev main_while0b_v144 : Ref sig .tc := ⟨.hbm, 210, rfl⟩
abbrev main_while0b_v145 : Ref sig .tc := ⟨.hbm, 211, rfl⟩
abbrev main_while0b_cst_31 : Ref sig .tc := ⟨.hbm, 212, rfl⟩
abbrev main_while0b_v146 : Ref sig .tc := ⟨.hbm, 213, rfl⟩
abbrev main_while0b_v147 : Ref sig .tc := ⟨.hbm, 214, rfl⟩
abbrev main_while0b_v148 : Ref sig .tc := ⟨.hbm, 215, rfl⟩
abbrev main_while0b_v149 : Ref sig .tc := ⟨.hbm, 216, rfl⟩
abbrev main_while0b_v150 : Ref sig .tc := ⟨.hbm, 217, rfl⟩
abbrev main_while0b_v151 : Ref sig .tc := ⟨.hbm, 218, rfl⟩
abbrev main_while0b_v152 : Ref sig .tc := ⟨.hbm, 219, rfl⟩
abbrev main_while0b_c_32 : Ref sig .tc := ⟨.hbm, 220, rfl⟩
abbrev main_while0b_v153 : Ref sig .tc := ⟨.hbm, 221, rfl⟩
abbrev main_while0b_v154 : Ref sig .tc := ⟨.hbm, 222, rfl⟩
abbrev main_while0b_c_33 : Ref sig .tc := ⟨.hbm, 223, rfl⟩
abbrev main_while0b_v155 : Ref sig .tc := ⟨.hbm, 224, rfl⟩
abbrev main_while0b_v156 : Ref sig .tc := ⟨.hbm, 225, rfl⟩
abbrev main_while0b_v157 : Ref sig .tc := ⟨.hbm, 226, rfl⟩
abbrev main_while0b_v158 : Ref sig .tc := ⟨.hbm, 227, rfl⟩
abbrev main_while0b_cst_34 : Ref sig .tc := ⟨.hbm, 228, rfl⟩
abbrev main_while0b_v159 : Ref sig .tc := ⟨.hbm, 229, rfl⟩
abbrev main_while0b_v160 : Ref sig .tc := ⟨.hbm, 230, rfl⟩
abbrev main_while0b_v161 : Ref sig .tc := ⟨.hbm, 231, rfl⟩
abbrev main_while0b_cst_35 : Ref sig .tc := ⟨.hbm, 232, rfl⟩
abbrev main_while0b_call8_v0 : Ref sig .tc := ⟨.hbm, 233, rfl⟩
abbrev main_while0b_call8_v1 : Ref sig .tc := ⟨.hbm, 234, rfl⟩
abbrev main_while0b_v162 : Ref sig .tc := ⟨.hbm, 235, rfl⟩
abbrev main_while0b_c_36 : Ref sig .tc := ⟨.hbm, 236, rfl⟩
abbrev main_while0b_v163 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_c_15 : Ref sig .tc := ⟨.hbm, 244, rfl⟩
abbrev main_v111 : Ref sig .tc := ⟨.hbm, 245, rfl⟩
abbrev main_v112 : Ref sig .tc := ⟨.hbm, 246, rfl⟩
abbrev main_c_16 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_c_17 : Ref sig .tc := ⟨.hbm, 253, rfl⟩
abbrev main_v118 : Ref sig .tc := ⟨.hbm, 254, rfl⟩
abbrev main_v119 : Ref sig .tc := ⟨.hbm, 255, rfl⟩
abbrev main_c_18 : Ref sig .tc := ⟨.hbm, 256, rfl⟩
abbrev main_v120 : Ref sig .tc := ⟨.hbm, 257, rfl⟩
abbrev main_v121 : Ref sig .tc := ⟨.hbm, 258, rfl⟩
abbrev main_v122 : Ref sig .tc := ⟨.hbm, 259, rfl⟩
abbrev main_v123 : Ref sig .tc := ⟨.hbm, 260, rfl⟩
abbrev main_v124 : Ref sig .tc := ⟨.hbm, 261, rfl⟩
abbrev main_v125 : Ref sig .tc := ⟨.hbm, 262, rfl⟩
abbrev main_cst_19 : Ref sig .tc := ⟨.hbm, 263, rfl⟩
abbrev main_v126 : Ref sig .tc := ⟨.hbm, 264, rfl⟩
abbrev main_v127 : Ref sig .tc := ⟨.hbm, 265, rfl⟩
abbrev main_v128 : Ref sig .tc := ⟨.hbm, 266, rfl⟩
abbrev main_v129 : Ref sig .tc := ⟨.hbm, 267, rfl⟩
abbrev main_v130 : Ref sig .tc := ⟨.hbm, 268, rfl⟩
abbrev main_v131 : Ref sig .tc := ⟨.hbm, 269, rfl⟩
abbrev main_v132 : Ref sig .tc := ⟨.hbm, 270, rfl⟩
abbrev main_v133 : Ref sig .tc := ⟨.hbm, 271, rfl⟩
abbrev main_v134 : Ref sig .tc := ⟨.hbm, 272, rfl⟩
abbrev main_v135 : Ref sig .tc := ⟨.hbm, 273, rfl⟩

abbrev nD : Nat := 1
abbrev τ : Topo := Topo.v7x

variable {F : FTy → Type} [FloatOps F]

abbrev main_while0_count : Scf.Loop 32 := ⟨0#32, 128#32, 1#32⟩
-- ==== Proof.Body.lean ====
/- The kernel's body over named values: the scores, one selection, the boxes and features of the chosen pairs, one
   suppression (the printed text writes its 128 suppressions out one after the other; here one is written and
   iterated), and the results. `BodyEq` shows that the printed body is this one. -/
module

public import proofs.«01_k».proof.KernelIdeal

@[expose] public section

set_option maxRecDepth 16384

noncomputable section

namespace Cert.KernelIdeal.Body

open Idealize.ShloMosaic Idealize.SL.Sem

variable {F : FTy → Type} [FloatOps F]
variable [Facts]
open Facts₀ Facts

/-! ## The values -/

/-- One factor of the scores: the two-layer network on the class scores, plus the second bias, times the features. -/
def factor (x : FVec F S1024x150 .f32) (f : FVec F S1024x1024 .f32) (w : FVec F S150x256 .f32) (b : FVec F S1x256 .f32)
    (w' : FVec F S256x1024 .f32) (b' : FVec F S1x1024 .f32) : FVec F S1024x1024 .f32 :=
  mulf (addf (matmul dot_S1024x256_S256x1024_S1024x1024_1_0_0_1_n_n none
      (maximumf (addf (matmul dot_S1024x150_S150x256_S1024x256_1_0_0_1_n_n none
            (shapeCast S1024x150 x shapeCasts_S1024x150_S1024x150) w (constant S1024x256 .f32 0x00000000#32))
          (broadcastTo S1024x256 (shapeCast S1x256 b shapeCasts_S1x256_S1x256) broadcasts_S1x256_S1024x256))
        (broadcast S1024x256 (Scalar.ofBits .f32 0x00000000#32))) w' (constant S1024x1024 .f32 0x00000000#32))
    (broadcastTo S1024x1024 (shapeCast S1x1024 b' shapeCasts_S1x1024_S1x1024) broadcasts_S1x1024_S1024x1024))
    (shapeCast S1024x1024 f shapeCasts_S1024x1024_S1024x1024)

/-- The score matrix: the logistic of the product of the factors above the diagonal, a half below, minus infinity on
    the diagonal and on the padding. -/
def scores (u v : FVec F S1024x1024 .f32) : FVec F S1024x1024 .f32 :=
  have r : IVec S1024x1024 32 := iota .tc S1024x1024 32 [0] iota_S1024x1024_d0_w32
  have c : IVec S1024x1024 32 := iota .tc S1024x1024 32 [1] iota_S1024x1024_d1_w32
  have one : FVec F S1024x1024 .f32 := broadcast S1024x1024 (Scalar.ofBits .f32 0x3F800000#32)
  select (andi (andi (cmpi .slt r (broadcast S1024x1024 1000#32)) (cmpi .slt c (broadcast S1024x1024 1000#32)))
      (cmpi .ne r c))
    (select (cmpi .sgt c r)
      (divf one (addf one (exp (subf (broadcast S1024x1024 (Scalar.ofBits .f32 0x00000000#32))
        (matmul dot_S1024x1024_S1024x1024_S1024x1024_1_1_0_0_n_n none u v (constant S1024x1024 .f32 0x00000000#32))))))
      (broadcast S1024x1024 (Scalar.ofBits .f32 0x3F000000#32)))
    (broadcast S1024x1024 (Scalar.ofBits .f32 0xFF800000#32))

/-- The slabs the scratch buffer holds: row `r` of the scores as 8 rows of 128. -/
def slabs (p : FVec F S1024x1024 .f32) : FVec F S1024x8x128 .f32 :=
  shapeCast S1024x8x128 (shapeCast S1024x8x128 p shapeCasts_S1024x1024_S1024x8x128) shapeCasts_S1024x8x128_S1024x8x128

/-- Each row's maximum. -/
def rowMax (p : FVec F S1024x1024 .f32) : FVec F S8x128 .f32 :=
  multiReduction .maximumf [2] S8x128 (shapeCast S8x128x1024 p shapeCasts_S1024x1024_S8x128x1024) 0xFF800000#32
    reduces_S8x128x1024_S8x128 (.inl rfl) rfl

/-- Each row's first column at the maximum. -/
def rowArg (p : FVec F S1024x1024 .f32) : FVec F S8x128 .f32 :=
  multiReduction .minimumf [2] S8x128
    (select (cmpf .oeq (shapeCast S8x128x1024 p shapeCasts_S1024x1024_S8x128x1024)
        (broadcastTo S8x128x1024 (shapeCast S8x128x1 (rowMax p) shapeCasts_S8x128_S8x128x1)
          broadcasts_S8x128x1_S8x128x1024))
      (sitofp .f32 (iota .tc S8x128x1024 32 [2] iota_S8x128x1024_d2_w32))
      (broadcast S8x128x1024 (Scalar.ofBits .f32 0x4EEE6B28#32)))
    0x7F800000#32 reduces_S8x128x1024_S8x128 (.inl rfl) rfl

/-- The number of each of the 1024 places of 8 rows of 128. -/
def place8 : FVec F S8x128 .f32 :=
  sitofp .f32 (addi (muli (iota .tc S8x128 32 [0] iota_S8x128_d0_w32) (broadcast S8x128 128#32))
    (iota .tc S8x128 32 [1] iota_S8x128_d1_w32))

/-- The number of each place of a slab. -/
def place1 : FVec F S1x8x128 .f32 :=
  sitofp .f32 (addi (muli (iota .tc S1x8x128 32 [1] iota_S1x8x128_d1_w32) (broadcast S1x8x128 128#32))
    (iota .tc S1x8x128 32 [2] iota_S1x8x128_d2_w32))

/-- The number of each lane. -/
abbrev lane : IVec S1x128 32 := iota .tc S1x128 32 [1] iota_S1x128_d1_w32

/-- The least of 1024 places. -/
def least8 (x : FVec F S8x128 .f32) : FVec F S1x1 .f32 :=
  broadcast S1x1 (extractAt ![0, 0, 0] (shapeCast S1x1x1 (multiReduction .minimumf [1, 2] S1
    (shapeCast S1x8x128 x shapeCasts_S8x128_S1x8x128) 0x7F800000#32 reduces_S1x8x128_S1 (.inl rfl) rfl)
    shapeCasts_S1_S1x1x1) inpos_S1x1x1_p0_0_0)

/-- The greatest of the row maxima. -/
def top (rm : FVec F S8x128 .f32) : FVec F S1x1 .f32 :=
  broadcast S1x1 (extractAt ![0, 0, 0] (shapeCast S1x1x1 (multiReduction .maximumf [1, 2] S1
    (shapeCast S1x8x128 rm shapeCasts_S8x128_S1x8x128) 0xFF800000#32 reduces_S1x8x128_S1 (.inl rfl) rfl)
    shapeCasts_S1_S1x1x1) inpos_S1x1x1_p0_0_0)

/-- The first row at the greatest of the row maxima. -/
def topRow (rm : FVec F S8x128 .f32) : FVec F S1x1 .f32 :=
  least8 (select (cmpf .oeq rm (broadcastTo S8x128 (top rm) broadcasts_S1x1_S8x128)) place8
    (broadcast S8x128 (Scalar.ofBits .f32 0x4EEE6B28#32)))

/-- Which place is that row. -/
def topHit (rm : FVec F S8x128 .f32) : IVec S8x128 1 :=
  cmpf .oeq place8 (broadcastTo S8x128 (topRow rm) broadcasts_S1x1_S8x128)

/-- That row's first column at its maximum. -/
def topCol (rm rc : FVec F S8x128 .f32) : FVec F S1x1 .f32 :=
  least8 (select (topHit rm) rc (broadcast S8x128 (Scalar.ofBits .f32 0x4EEE6B28#32)))

/-- That row as a word. -/
def topWord (rm : FVec F S8x128 .f32) : BitVec 32 :=
  Scalar.fptosi 32 (extractAt ![0, 0] (topRow rm) inpos_S1x1_p0_0)

/-- A slab without its chosen column. -/
def drop (c : FVec F S1x1 .f32) (slab : FVec F S1x8x128 .f32) : FVec F S1x8x128 .f32 :=
  select (cmpf .oeq place1 (broadcastTo S1x8x128 (shapeCast S1x1x1 c shapeCasts_S1x1_S1x1x1)
      broadcasts_S1x1x1_S1x8x128))
    (broadcast S1x8x128 (Scalar.ofBits .f32 0xFF800000#32)) slab

/-- A slab's maximum. -/
def slabMax (slab : FVec F S1x8x128 .f32) : FVec F S1x1 .f32 :=
  shapeCast S1x1 (broadcast S1x1x1 (extractAt ![0, 0, 0, 0] (shapeCast S1x1x1x1 (multiReduction .maximumf [1, 2, 3] S1
    (shapeCast S1x1x8x128 slab shapeCasts_S1x8x128_S1x1x8x128) 0xFF800000#32 reduces_S1x1x8x128_S1 (.inl rfl) rfl)
    shapeCasts_S1_S1x1x1x1) inpos_S1x1x1x1_p0_0_0_0)) shapeCasts_S1x1x1_S1x1

/-- A slab's first column at its maximum. -/
def slabArg (slab : FVec F S1x8x128 .f32) : FVec F S1x1 .f32 :=
  shapeCast S1x1 (broadcast S1x1x1 (extractAt ![0, 0, 0, 0] (shapeCast S1x1x1x1 (multiReduction .minimumf [1, 2, 3] S1
    (shapeCast S1x1x8x128 (select (cmpf .oeq slab (broadcastTo S1x8x128
        (shapeCast S1x1x1 (slabMax slab) shapeCasts_S1x1_S1x1x1) broadcasts_S1x1x1_S1x8x128)) place1
      (broadcast S1x8x128 (Scalar.ofBits .f32 0x4EEE6B28#32))) shapeCasts_S1x8x128_S1x1x8x128)
    0x7F800000#32 reduces_S1x1x8x128_S1 (.inl rfl) rfl)
    shapeCasts_S1_S1x1x1x1) inpos_S1x1x1x1_p0_0_0_0)) shapeCasts_S1x1x1_S1x1

/-- `a` at the places of `h`, `x` elsewhere. -/
def put8 (h : IVec S8x128 1) (a : FVec F S1x1 .f32) (x : FVec F S8x128 .f32) : FVec F S8x128 .f32 :=
  select h (broadcastTo S8x128 (shapeCast S1x1 a shapeCasts_S1x1_S1x1) broadcasts_S1x1_S8x128) x

/-- `a` in lane `k`, `x` elsewhere. -/
def putLane (k : BitVec 32) (a : FVec F S1x1 .f32) (x : FVec F S1x128 .f32) : FVec F S1x128 .f32 :=
  select (cmpi .eq lane (broadcast S1x128 k))
    (broadcastTo S1x128 (shapeCast S1x1 a shapeCasts_S1x1_S1x1) broadcasts_S1x1_S1x128) x

/-! ## The program -/

/-- What the selections carry: the rows' maxima and their columns, and the values, rows and columns chosen. -/
abbrev Carry (F : FTy → Type) [FloatOps F] [Facts] : Type :=
  FVec F S8x128 .f32 × FVec F S8x128 .f32 × FVec F S1x128 .f32 × FVec F S1x128 .f32 × FVec F S1x128 .f32

/-- What selection `k` carries on, given the slab it read. -/
def next (k : BitVec 32) (st : Carry F) (slab : FVec F S1x8x128 .f32) : Carry F :=
  (put8 (topHit st.1) (slabMax (drop (topCol st.1 st.2.1) slab)) st.1,
    put8 (topHit st.1) (slabArg (drop (topCol st.1 st.2.1) slab)) st.2.1,
    putLane k (top st.1) st.2.2.1, putLane k (topRow st.1) st.2.2.2.1, putLane k (topCol st.1 st.2.1) st.2.2.2.2)

/-- Selection `k`: the slab of the chosen row is read, and written back without the chosen column. -/
def step (arg17 : Memref sig .tc .vmem S1024x8x128 .f32) (k : BitVec 32) (st : Carry F) :
    Prog (TpuEff nD τ sig (Elt F) Λ₀ .tc) (Carry F) := do
  have hw : k0_chk1 (topWord st.1) :=
    (← Prog.lift (TpuEff.assume (k0_chk1 (topWord st.1)) (k0_chk1.dec (topWord st.1)))).down
  let slab : Vec F S1x8x128 .f32 ← Prog.lift (.load arg17 (Rect.unit (s := S1024x8x128) (k0_off1 (topWord st.1)) S1x8x128.size (k0_off1_inb (topWord st.1) hw)).toLoadRect (View.loadsAt_vmem h_S1x8x128))
  let _slab : Vec F S1x8x128 .f32 ← Prog.lift (.load arg17 (Rect.unit (s := S1024x8x128) (k0_off1 (topWord st.1)) S1x8x128.size (k0_off1_inb (topWord st.1) hw)).toLoadRect (View.loadsAt_vmem h_S1x8x128))
  Prog.lift (.store arg17 (Rect.unit (s := S1024x8x128) (k0_off1 (topWord st.1)) S1x8x128.size (k0_off1_inb (topWord st.1) hw)) (shapeCast S1x8x128 (drop (topCol st.1 st.2.1) slab) shapeCasts_S1x8x128_S1x8x128) Finset.univ (View.stores_vmem_bits_univ h_S1x8x128 rfl) (.inl rfl))
  pure (next k st slab)

/-- The carry before the first selection. -/
def init (p : FVec F S1024x1024 .f32) : Carry F :=
  (rowMax p, rowArg p, broadcast S1x128 (Scalar.ofBits .f32 0x00000000#32),
    broadcast S1x128 (Scalar.ofBits .f32 0x00000000#32), broadcast S1x128 (Scalar.ofBits .f32 0x00000000#32))

/-! ### The boxes -/

/-- The unit matrix's places. -/
def eye : IVec S128x128 1 :=
  cmpi .eq (iota .tc S128x128 32 [0] iota_S128x128_d0_w32) (iota .tc S128x128 32 [1] iota_S128x128_d1_w32)

/-- A row turned to a column. -/
def turn (x : FVec F S1x128 .f32) : FVec F S128x1 .f32 :=
  shapeCast S128x1 (multiReduction .add [1] S128
    (select eye (broadcastTo S128x128 (shapeCast S1x128 x shapeCasts_S1x128_S1x128) broadcasts_S1x128_S128x128)
      (broadcast S128x128 (Scalar.ofBits .f32 0x00000000#32))) 0x00000000#32 reduces_S128x128_S128 (.inl rfl) rfl)
    shapeCasts_S128_S128x1

/-- A column turned to a row. -/
def turnBack (x : FVec F S128x1 .f32) : FVec F S1x128 .f32 :=
  shapeCast S1x128 (multiReduction .add [0] S128
    (select eye (broadcastTo S128x128 (shapeCast S128x1 x shapeCasts_S128x1_S128x1) broadcasts_S128x1_S128x128)
      (broadcast S128x128 (Scalar.ofBits .f32 0x00000000#32))) 0x00000000#32 reduces_S128x128_S128_2 (.inl rfl) rfl)
    shapeCasts_S128_S1x128

/-- Row `i` is one at the column the `i`-th entry of `x` names and zero elsewhere. -/
def oneHot (x : FVec F S1x128 .f32) : FVec F S128x1024 .f32 :=
  sitofp .f32 (extui 32 (cmpf .oeq (sitofp .f32 (iota .tc S128x1024 32 [1] iota_S128x1024_d1_w32))
    (broadcastTo S128x1024 (turn x) broadcasts_S128x1_S128x1024)) natLt_1_32)

/-- The boxes a row of numbers names. -/
def boxesAt (x : FVec F S1x128 .f32) (b : FVec F S1024x4 .f32) : FVec F S128x4 .f32 :=
  matmul dot_S128x1024_S1024x4_S128x4_1_0_0_1_n_n (some .fp32) (oneHot x)
    (shapeCast S1024x4 b shapeCasts_S1024x4_S1024x4) (constant S128x4 .f32 0x00000000#32)

/-- The features a row of numbers names. -/
def featsAt (x : FVec F S1x128 .f32) (f : FVec F S1024x1024 .f32) : FVec F S128x1024 .f32 :=
  matmul dot_S128x1024_S1024x1024_S128x1024_1_0_0_1_n_n (some .fp32) (oneHot x)
    (shapeCast S1024x1024 f shapeCasts_S1024x1024_S1024x1024) (constant S128x1024 .f32 0x00000000#32)

/-- The least left edge. -/
def lo0 (s o : FVec F S128x4 .f32) : FVec F S128x1 .f32 :=
  minimumf (extractStridedSlice S128x1 ![0, 0] s slices_S128x4_o0_0_S128x1)
    (extractStridedSlice S128x1 ![0, 0] o slices_S128x4_o0_0_S128x1)
/-- The least upper edge. -/
def lo1 (s o : FVec F S128x4 .f32) : FVec F S128x1 .f32 :=
  minimumf (extractStridedSlice S128x1 ![0, 1] s slices_S128x4_o0_1_S128x1)
    (extractStridedSlice S128x1 ![0, 1] o slices_S128x4_o0_1_S128x1)
/-- The greatest right edge. -/
def hi0 (s o : FVec F S128x4 .f32) : FVec F S128x1 .f32 :=
  maximumf (extractStridedSlice S128x1 ![0, 2] s slices_S128x4_o0_2_S128x1)
    (extractStridedSlice S128x1 ![0, 2] o slices_S128x4_o0_2_S128x1)
/-- The greatest lower edge. -/
def hi1 (s o : FVec F S128x4 .f32) : FVec F S128x1 .f32 :=
  maximumf (extractStridedSlice S128x1 ![0, 3] s slices_S128x4_o0_3_S128x1)
    (extractStridedSlice S128x1 ![0, 3] o slices_S128x4_o0_3_S128x1)
/-- The area of the union box. -/
def area (s o : FVec F S128x4 .f32) : FVec F S128x1 .f32 :=
  mulf (subf (hi0 s o) (lo0 s o)) (subf (hi1 s o) (lo1 s o))

/-- A column along the rows. -/
def down (x : FVec F S128x1 .f32) : FVec F S128x128 .f32 := broadcastTo S128x128 x broadcasts_S128x1_S128x128
/-- A column, turned to a row, along the columns. -/
def across (x : FVec F S128x1 .f32) : FVec F S128x128 .f32 :=
  broadcastTo S128x128 (turnBack x) broadcasts_S1x128_S128x128

/-- A matrix clipped below at zero. -/
def clip (x : FVec F S128x128 .f32) : FVec F S128x128 .f32 :=
  maximumf x (broadcast S128x128 (Scalar.ofBits .f32 0x00000000#32))

/-- The common area of the union boxes, pairwise. -/
def inter (s o : FVec F S128x4 .f32) : FVec F S128x128 .f32 :=
  mulf (clip (subf (minimumf (down (hi0 s o)) (across (hi0 s o))) (maximumf (down (lo0 s o)) (across (lo0 s o)))))
    (clip (subf (minimumf (down (hi1 s o)) (across (hi1 s o))) (maximumf (down (lo1 s o)) (across (lo1 s o)))))

/-- Which union boxes overlap by more than the threshold. -/
def over (s o : FVec F S128x4 .f32) : IVec S128x128 1 :=
  cmpf .ogt (divf (inter s o) (addf (subf (addf (down (area s o)) (across (area s o))) (inter s o))
      (broadcast S128x128 (Scalar.ofBits .f32 0x3089705F#32))))
    (broadcast S128x128 (Scalar.ofBits .f32 0x3F333333#32))

/-! ### The suppressions -/

theorem slices_lane (k : Nat) (h : k < 128) : S1x128.Slices ![0, k] S1x1 := by
  refine ⟨rfl, fun a => ?_⟩
  fin_cases a
  · change 0 + 1 ≤ 1; omega
  · change k + 1 ≤ 128; omega

theorem slices_row (k : Nat) (h : k < 128) : S128x128.Slices ![k, 0] S1x128 := by
  refine ⟨rfl, fun a => ?_⟩
  fin_cases a
  · change k + 1 ≤ 128; omega
  · change 0 + 128 ≤ 128; omega

/-- Suppression `k`: if pair `k` is kept, the later pairs it overlaps are not. -/
def suppress (ov : IVec S128x128 1) (k : Nat) (h : k < 128) (kp : FVec F S1x128 .f32) : FVec F S1x128 .f32 :=
  select (andi (andi (extractStridedSlice S1x128 ![k, 0] ov (slices_row k h))
      (cmpi .sgt lane (broadcast S1x128 (BitVec.ofNat 32 k))))
      (broadcastTo S1x128 (cmpf .ogt (extractStridedSlice S1x1 ![0, k] kp (slices_lane k h))
        (broadcast S1x1 (Scalar.ofBits .f32 0x00000000#32))) broadcasts_S1x1_S1x128))
    (broadcast S1x128 (Scalar.ofBits .f32 0x00000000#32)) kp

/-- What the first `n` suppressions keep. -/
def kept (ov : IVec S128x128 1) : (n : Nat) → n ≤ 128 → FVec F S1x128 .f32
  | 0, _ => broadcast S1x128 (Scalar.ofBits .f32 0x3F800000#32)
  | n + 1, h => suppress ov n (by omega) (kept ov n (by omega))

/-- What is kept in the end. -/
def keep (ov : IVec S128x128 1) : FVec F S1x128 .f32 := kept ov 128 (le_refl _)

/-! ### The results -/

/-- Boxes times what is kept. -/
def outBox (b : FVec F S128x4 .f32) (kp : FVec F S1x128 .f32) : FVec F S128x4 .f32 :=
  mulf b (broadcastTo S128x4 (turn kp) broadcasts_S128x1_S128x4)
/-- Features times what is kept. -/
def outFeat (b : FVec F S128x1024 .f32) (kp : FVec F S1x128 .f32) : FVec F S128x1024 .f32 :=
  mulf b (broadcastTo S128x1024 (turn kp) broadcasts_S128x1_S128x1024)
/-- The mean of two feature blocks. -/
def mean (a b : FVec F S128x1024 .f32) : FVec F S128x1024 .f32 :=
  mulf (addf a b) (broadcast S128x1024 (Scalar.ofBits .f32 0x3F000000#32))

variable (arg0 : Memref sig .tc .vmem S1024x150 .f32) (arg1 : Memref sig .tc .vmem S1024x1024 .f32)
  (arg2 : Memref sig .tc .vmem S1024x4 .f32) (arg3 : Memref sig .tc .vmem S150x256 .f32)
  (arg4 : Memref sig .tc .vmem S1x256 .f32) (arg5 : Memref sig .tc .vmem S256x1024 .f32)
  (arg6 : Memref sig .tc .vmem S1x1024 .f32) (arg7 : Memref sig .tc .vmem S150x256 .f32)
  (arg8 : Memref sig .tc .vmem S1x256 .f32) (arg9 : Memref sig .tc .vmem S256x1024 .f32)
  (arg10 : Memref sig .tc .vmem S1x1024 .f32) (arg11 arg12 : Memref sig .tc .vmem S128x4 .f32)
  (arg13 arg14 arg15 : Memref sig .tc .vmem S128x1024 .f32) (arg16 : Memref sig .tc .vmem S1x128 .f32)
  (arg17 : Memref sig .tc .vmem S1024x8x128 .f32)

/-- What follows the selections: the boxes and features of the pairs chosen, the suppressions, the results. -/
def tail (f : FVec F S1024x1024 .f32) (st : Carry F) : Prog (TpuEff nD τ sig (Elt F) Λ₀ .tc) PUnit := do
  let b : Vec F S1024x4 .f32 ← Prog.lift (.load arg2 (Rect.unit (s := S1024x4) ![0, 0] S1024x4.size inb_S1024x4_S1024x4_0_0).toLoadRect (View.loadsAt_vmem h_S1024x4))
  let b' : Vec F S1024x4 .f32 ← Prog.lift (.load arg2 (Rect.unit (s := S1024x4) ![0, 0] S1024x4.size inb_S1024x4_S1024x4_0_0).toLoadRect (View.loadsAt_vmem h_S1024x4))
  let _x : Vec F S128x4 .f32 ← Prog.lift (.load arg11 (Rect.unit (s := S128x4) ![0, 0] S128x4.size inb_S128x4_S128x4_0_0).toLoadRect (View.loadsAt_vmem h_S128x4))
  Prog.lift (.store arg11 (Rect.unit (s := S128x4) ![0, 0] S128x4.size inb_S128x4_S128x4_0_0) (outBox (boxesAt st.2.2.2.1 b) (keep (over (boxesAt st.2.2.2.1 b) (boxesAt st.2.2.2.2 b')))) Finset.univ (View.stores_vmem_bits_univ h_S128x4 rfl) (.inl rfl))
  let _x : Vec F S128x4 .f32 ← Prog.lift (.load arg12 (Rect.unit (s := S128x4) ![0, 0] S128x4.size inb_S128x4_S128x4_0_0).toLoadRect (View.loadsAt_vmem h_S128x4))
  Prog.lift (.store arg12 (Rect.unit (s := S128x4) ![0, 0] S128x4.size inb_S128x4_S128x4_0_0) (outBox (boxesAt st.2.2.2.2 b') (keep (over (boxesAt st.2.2.2.1 b) (boxesAt st.2.2.2.2 b')))) Finset.univ (View.stores_vmem_bits_univ h_S128x4 rfl) (.inl rfl))
  let _x : Vec F S128x1024 .f32 ← Prog.lift (.load arg13 (Rect.unit (s := S128x1024) ![0, 0] S128x1024.size inb_S128x1024_S128x1024_0_0).toLoadRect (View.loadsAt_vmem h_S128x1024))
  Prog.lift (.store arg13 (Rect.unit (s := S128x1024) ![0, 0] S128x1024.size inb_S128x1024_S128x1024_0_0) (outFeat (featsAt st.2.2.2.1 f) (keep (over (boxesAt st.2.2.2.1 b) (boxesAt st.2.2.2.2 b')))) Finset.univ (View.stores_vmem_bits_univ h_S128x1024 rfl) (.inl rfl))
  let _x : Vec F S128x1024 .f32 ← Prog.lift (.load arg14 (Rect.unit (s := S128x1024) ![0, 0] S128x1024.size inb_S128x1024_S128x1024_0_0).toLoadRect (View.loadsAt_vmem h_S128x1024))
  Prog.lift (.store arg14 (Rect.unit (s := S128x1024) ![0, 0] S128x1024.size inb_S128x1024_S128x1024_0_0) (outFeat (featsAt st.2.2.2.2 f) (keep (over (boxesAt st.2.2.2.1 b) (boxesAt st.2.2.2.2 b')))) Finset.univ (View.stores_vmem_bits_univ h_S128x1024 rfl) (.inl rfl))
  let _x : Vec F S128x1024 .f32 ← Prog.lift (.load arg15 (Rect.unit (s := S128x1024) ![0, 0] S128x1024.size inb_S128x1024_S128x1024_0_0).toLoadRect (View.loadsAt_vmem h_S128x1024))
  Prog.lift (.store arg15 (Rect.unit (s := S128x1024) ![0, 0] S128x1024.size inb_S128x1024_S128x1024_0_0) (outFeat (mean (featsAt st.2.2.2.1 f) (featsAt st.2.2.2.2 f)) (keep (over (boxesAt st.2.2.2.1 b) (boxesAt st.2.2.2.2 b')))) Finset.univ (View.stores_vmem_bits_univ h_S128x1024 rfl) (.inl rfl))
  let _x : Vec F S1x128 .f32 ← Prog.lift (.load arg16 (Rect.unit (s := S1x128) ![0, 0] S1x128.size inb_S1x128_S1x128_0_0).toLoadRect (View.loadsAt_vmem h_S1x128))
  Prog.lift (.store arg16 (Rect.unit (s := S1x128) ![0, 0] S1x128.size inb_S1x128_S1x128_0_0) (mulf st.2.2.1 (keep (over (boxesAt st.2.2.2.1 b) (boxesAt st.2.2.2.2 b')))) Finset.univ (View.stores_vmem_bits_univ h_S1x128 rfl) (.inl rfl))
  pure ⟨⟩

/-- The body as loops. -/
def body : Prog (TpuEff nD τ sig (Elt F) Λ₀ .tc) PUnit := do
  let x : Vec F S1024x150 .f32 ← Prog.lift (.load arg0 (Rect.unit (s := S1024x150) ![0, 0] S1024x150.size inb_S1024x150_S1024x150_0_0).toLoadRect (View.loadsAt_vmem h_S1024x150))
  let f : Vec F S1024x1024 .f32 ← Prog.lift (.load arg1 (Rect.unit (s := S1024x1024) ![0, 0] S1024x1024.size inb_S1024x1024_S1024x1024_0_0).toLoadRect (View.loadsAt_vmem h_S1024x1024))
  let w1 : Vec F S150x256 .f32 ← Prog.lift (.load arg3 (Rect.unit (s := S150x256) ![0, 0] S150x256.size inb_S150x256_S150x256_0_0).toLoadRect (View.loadsAt_vmem h_S150x256))
  let b1 : Vec F S1x256 .f32 ← Prog.lift (.load arg4 (Rect.unit (s := S1x256) ![0, 0] S1x256.size inb_S1x256_S1x256_0_0).toLoadRect (View.loadsAt_vmem h_S1x256))
  let w2 : Vec F S256x1024 .f32 ← Prog.lift (.load arg5 (Rect.unit (s := S256x1024) ![0, 0] S256x1024.size inb_S256x1024_S256x1024_0_0).toLoadRect (View.loadsAt_vmem h_S256x1024))
  let b2 : Vec F S1x1024 .f32 ← Prog.lift (.load arg6 (Rect.unit (s := S1x1024) ![0, 0] S1x1024.size inb_S1x1024_S1x1024_0_0).toLoadRect (View.loadsAt_vmem h_S1x1024))
  let w3 : Vec F S150x256 .f32 ← Prog.lift (.load arg7 (Rect.unit (s := S150x256) ![0, 0] S150x256.size inb_S150x256_S150x256_0_0).toLoadRect (View.loadsAt_vmem h_S150x256))
  let b3 : Vec F S1x256 .f32 ← Prog.lift (.load arg8 (Rect.unit (s := S1x256) ![0, 0] S1x256.size inb_S1x256_S1x256_0_0).toLoadRect (View.loadsAt_vmem h_S1x256))
  let w4 : Vec F S256x1024 .f32 ← Prog.lift (.load arg9 (Rect.unit (s := S256x1024) ![0, 0] S256x1024.size inb_S256x1024_S256x1024_0_0).toLoadRect (View.loadsAt_vmem h_S256x1024))
  let b4 : Vec F S1x1024 .f32 ← Prog.lift (.load arg10 (Rect.unit (s := S1x1024) ![0, 0] S1x1024.size inb_S1x1024_S1x1024_0_0).toLoadRect (View.loadsAt_vmem h_S1x1024))
  let _x : Vec F S1024x8x128 .f32 ← Prog.lift (.load arg17 (Rect.unit (s := S1024x8x128) ![0, 0, 0] S1024x8x128.size inb_S1024x8x128_S1024x8x128_0_0_0).toLoadRect (View.loadsAt_vmem h_S1024x8x128))
  Prog.lift (.store arg17 (Rect.unit (s := S1024x8x128) ![0, 0, 0] S1024x8x128.size inb_S1024x8x128_S1024x8x128_0_0_0) (slabs (scores (factor x f w1 b1 w2 b2) (factor x f w3 b3 w4 b4))) Finset.univ (View.stores_vmem_bits_univ h_S1024x8x128 rfl) (.inl rfl))
  let st ← Scf.Loop.for k0_t1_loop k0_t1_ok (init (scores (factor x f w1 b1 w2 b2) (factor x f w3 b3 w4 b4)))
    fun k st => step arg17 (Scf.iv 0#32 1#32 k) st
  tail arg2 arg11 arg12 arg13 arg14 arg15 arg16 f st

end Cert.KernelIdeal.Body
-- ==== Proof.BodyEq.lean ====
/- The printed body is the body over named values. -/
module

public import proofs.«01_k».proof.Proof.Body
public import proofs.«01_k».proof.Proof.Gen.KernelIdeal.Skeleton

@[expose] public section

set_option maxRecDepth 100000

noncomputable section

namespace Cert.KernelIdeal.Body

open Idealize.ShloMosaic Idealize.SL.Sem Cert.KernelIdeal.Gen

variable {F : FTy → Type} [FloatOps F]
variable [Facts]
open Facts₀ Facts

/-! ### The terms the printed parts hand on between the suppressions -/

/-- Entry `k` of the row that says what is kept. -/
abbrev laneOf (k : Nat) (kp : FVec F S1x128 .f32) (h : k < 128 := by decide) : FVec F S1x1 .f32 :=
  extractStridedSlice S1x1 ![0, k] kp (slices_lane k h)
/-- Row `k` of the overlaps. -/
abbrev rowOf (ov : IVec S128x128 1) (k : Nat) (h : k < 128 := by decide) : IVec S1x128 1 :=
  extractStridedSlice S1x128 ![k, 0] ov (slices_row k h)
/-- The places after `k`. -/
abbrev after (k : Nat) : IVec S1x128 1 := cmpi .sgt lane (broadcast S1x128 (BitVec.ofNat 32 k))
/-- The later places row `k` overlaps. -/
abbrev later (ov : IVec S128x128 1) (k : Nat) (h : k < 128 := by decide) : IVec S1x128 1 := andi (rowOf ov k h) (after k)
/-- Whether pair `k` is kept. -/
abbrev alive (k : Nat) (kp : FVec F S1x128 .f32) (h : k < 128 := by decide) : IVec S1x1 1 :=
  cmpf .ogt (laneOf k kp h) (broadcast S1x1 (Scalar.ofBits .f32 0x00000000#32))
/-- The places suppression `k` clears. -/
abbrev hit (ov : IVec S128x128 1) (k : Nat) (kp : FVec F S1x128 .f32) (h : k < 128 := by decide) : IVec S1x128 1 :=
  andi (later ov k h) (broadcastTo S1x128 (alive k kp h) Facts₀.broadcasts_S1x1_S1x128)
/-- Zeros. -/
abbrev zeros : FVec F S1x128 .f32 := broadcast S1x128 (Scalar.ofBits .f32 0x00000000#32)

section Chain
variable (ov : IVec S128x128 1)

theorem pay48 : k0_pay48 lane ov (k0_pay45 (F := F)) (hit ov 0 (k0_pay45 (F := F))) zeros =
    kept ov 5 (by decide) := rfl
theorem pay51 : k0_pay51 lane ov (kept (F := F) ov 5 (by decide)) (laneOf 5 (kept (F := F) ov 5 (by decide))) (rowOf ov 5) 5#32 =
    kept ov 9 (by decide) := rfl
theorem pay54 : k0_pay54 lane ov (kept (F := F) ov 9 (by decide)) (laneOf 9 (kept (F := F) ov 9 (by decide))) (later ov 9) (Scalar.ofBits .f32 0x00000000#32) =
    kept ov 13 (by decide) := rfl
theorem pay56 : k0_pay56 lane ov (kept (F := F) ov 13 (by decide)) (hit ov 13 (kept (F := F) ov 13 (by decide))) =
    kept ov 18 (by decide) := rfl
theorem pay58 : k0_pay58 lane ov (kept (F := F) ov 18 (by decide)) (laneOf 18 (kept (F := F) ov 18 (by decide))) =
    kept ov 22 (by decide) := rfl
theorem pay62 : k0_pay62 lane ov (kept (F := F) ov 22 (by decide)) (laneOf 22 (kept (F := F) ov 22 (by decide))) (rowOf ov 22) (after 22) =
    kept ov 26 (by decide) := rfl
theorem pay65 : k0_pay65 lane ov (kept (F := F) ov 26 (by decide)) (later ov 26) (alive 26 (kept (F := F) ov 26 (by decide))) =
    kept ov 30 (by decide) := rfl
theorem pay68 : k0_pay68 lane ov (kept (F := F) ov 30 (by decide)) (hit ov 30 (kept (F := F) ov 30 (by decide))) zeros =
    kept ov 35 (by decide) := rfl
theorem pay71 : k0_pay71 lane ov (kept (F := F) ov 35 (by decide)) (laneOf 35 (kept (F := F) ov 35 (by decide))) (rowOf ov 35) 35#32 =
    kept ov 39 (by decide) := rfl
theorem pay74 : k0_pay74 lane ov (kept (F := F) ov 39 (by decide)) (laneOf 39 (kept (F := F) ov 39 (by decide))) (later ov 39) (Scalar.ofBits .f32 0x00000000#32) =
    kept ov 43 (by decide) := rfl
theorem pay76 : k0_pay76 lane ov (kept (F := F) ov 43 (by decide)) (hit ov 43 (kept (F := F) ov 43 (by decide))) =
    kept ov 48 (by decide) := rfl
theorem pay78 : k0_pay78 lane ov (kept (F := F) ov 48 (by decide)) (laneOf 48 (kept (F := F) ov 48 (by decide))) =
    kept ov 52 (by decide) := rfl
theorem pay82 : k0_pay82 lane ov (kept (F := F) ov 52 (by decide)) (laneOf 52 (kept (F := F) ov 52 (by decide))) (rowOf ov 52) (after 52) =
    kept ov 56 (by decide) := rfl
theorem pay85 : k0_pay85 lane ov (kept (F := F) ov 56 (by decide)) (later ov 56) (alive 56 (kept (F := F) ov 56 (by decide))) =
    kept ov 60 (by decide) := rfl
theorem pay88 : k0_pay88 lane ov (kept (F := F) ov 60 (by decide)) (hit ov 60 (kept (F := F) ov 60 (by decide))) zeros =
    kept ov 65 (by decide) := rfl
theorem pay91 : k0_pay91 lane ov (kept (F := F) ov 65 (by decide)) (laneOf 65 (kept (F := F) ov 65 (by decide))) (rowOf ov 65) 65#32 =
    kept ov 69 (by decide) := rfl
theorem pay94 : k0_pay94 lane ov (kept (F := F) ov 69 (by decide)) (laneOf 69 (kept (F := F) ov 69 (by decide))) (later ov 69) (Scalar.ofBits .f32 0x00000000#32) =
    kept ov 73 (by decide) := rfl
theorem pay96 : k0_pay96 lane ov (kept (F := F) ov 73 (by decide)) (hit ov 73 (kept (F := F) ov 73 (by decide))) =
    kept ov 78 (by decide) := rfl
theorem pay98 : k0_pay98 lane ov (kept (F := F) ov 78 (by decide)) (laneOf 78 (kept (F := F) ov 78 (by decide))) =
    kept ov 82 (by decide) := rfl
theorem pay102 : k0_pay102 lane ov (kept (F := F) ov 82 (by decide)) (laneOf 82 (kept (F := F) ov 82 (by decide))) (rowOf ov 82) (after 82) =
    kept ov 86 (by decide) := rfl
theorem pay105 : k0_pay105 lane ov (kept (F := F) ov 86 (by decide)) (later ov 86) (alive 86 (kept (F := F) ov 86 (by decide))) =
    kept ov 90 (by decide) := rfl
theorem pay108 : k0_pay108 lane ov (kept (F := F) ov 90 (by decide)) (hit ov 90 (kept (F := F) ov 90 (by decide))) zeros =
    kept ov 95 (by decide) := rfl
theorem pay111 : k0_pay111 lane ov (kept (F := F) ov 95 (by decide)) (laneOf 95 (kept (F := F) ov 95 (by decide))) (rowOf ov 95) 95#32 =
    kept ov 99 (by decide) := rfl
theorem pay114 : k0_pay114 lane ov (kept (F := F) ov 99 (by decide)) (laneOf 99 (kept (F := F) ov 99 (by decide))) (later ov 99) (Scalar.ofBits .f32 0x00000000#32) =
    kept ov 103 (by decide) := rfl
theorem pay116 : k0_pay116 lane ov (kept (F := F) ov 103 (by decide)) (hit ov 103 (kept (F := F) ov 103 (by decide))) =
    kept ov 108 (by decide) := rfl
theorem pay118 : k0_pay118 lane ov (kept (F := F) ov 108 (by decide)) (laneOf 108 (kept (F := F) ov 108 (by decide))) =
    kept ov 112 (by decide) := rfl
theorem pay122 : k0_pay122 lane ov (kept (F := F) ov 112 (by decide)) (laneOf 112 (kept (F := F) ov 112 (by decide))) (rowOf ov 112) (after 112) =
    kept ov 116 (by decide) := rfl
theorem pay125 : k0_pay125 lane ov (kept (F := F) ov 116 (by decide)) (later ov 116) (alive 116 (kept (F := F) ov 116 (by decide))) =
    kept ov 120 (by decide) := rfl
theorem pay128 : k0_pay128 lane ov (kept (F := F) ov 120 (by decide)) (hit ov 120 (kept (F := F) ov 120 (by decide))) zeros =
    kept ov 125 (by decide) := rfl
theorem pay131 : k0_pay131 lane ov (kept (F := F) ov 125 (by decide)) (laneOf 125 (kept (F := F) ov 125 (by decide))) (rowOf ov 125) 125#32 =
    kept ov 128 (by decide) := rfl

end Chain

/-- Stores of equal values are the same. -/
theorem store_congr {cs : CoreSpace} {s : Shape} {e : EltTy} (m : Memref sig .tc cs s e) (r : Rect s) {w w' : r.shape.Idx → Elt F e}
    (M : Finset r.shape.Idx) (h : (m.access r).Stores M) (hm : M = Finset.univ ∨ ∀ a, r.stride a = 1) (hw : w = w') :
    (Prog.lift (TpuEff.store m r w M h hm) : Prog (TpuEff nD τ sig (Elt F) Λ₀ .tc) PUnit) =
      Prog.lift (TpuEff.store m r w' M h hm) := by rw [hw]

/-- Two programs that begin with equal programs are equal if what follows is. -/
theorem bind_congr {E : Type → Type} {α β : Type} {a b : Prog E β} {k k' : β → Prog E α} (h : a = b)
    (h' : ∀ x, k x = k' x) : a >>= k = b >>= k' := by
  subst h
  exact congrArg _ (funext h')

set_option maxHeartbeats 0 in
/-- The printed body is the body over named values. -/
theorem body_eq (arg0 : Memref sig .tc .vmem S1024x150 .f32) (harg0 : arg0.IsWhole) (arg1 : Memref sig .tc .vmem S1024x1024 .f32) (harg1 : arg1.IsWhole) (arg2 : Memref sig .tc .vmem S1024x4 .f32) (harg2 : arg2.IsWhole) (arg3 : Memref sig .tc .vmem S150x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S150x256 .f32) (harg7 : arg7.IsWhole) (arg8 : Memref sig .tc .vmem S1x256 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S128x4 .f32) (harg11 : arg11.IsWhole) (arg12 : Memref sig .tc .vmem S128x4 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S1x128 .f32) (harg16 : arg16.IsWhole) (arg17 : Memref sig .tc .vmem S1024x8x128 .f32) (harg17 : arg17.IsWhole) :
    (cc0__rpn_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 : Prog (TpuEff nD τ sig (Elt F) Λ₀ .tc) PUnit) = body arg0 arg1 arg2 arg3 arg4 arg5 arg6 arg7 arg8 arg9 arg10 arg11 arg12 arg13 arg14 arg15 arg16 arg17 := by
  rw [cc0__rpn_body_eq_skeleton]
  unfold cc0__rpn_body_skel
  simp only [k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_pay46, k0_pay47, k0_pay49, k0_pay50, k0_pay52, k0_pay53, k0_pay55, k0_pay57, k0_pay59, k0_pay60, k0_pay61, k0_pay63, k0_pay64, k0_pay66, k0_pay67, k0_pay69, k0_pay70, k0_pay72, k0_pay73, k0_pay75, k0_pay77, k0_pay79, k0_pay80, k0_pay81, k0_pay83, k0_pay84, k0_pay86, k0_pay87, k0_pay89, k0_pay90, k0_pay92, k0_pay93, k0_pay95, k0_pay97, k0_pay99, k0_pay100, k0_pay101, k0_pay103, k0_pay104, k0_pay106, k0_pay107, k0_pay109, k0_pay110, k0_pay112, k0_pay113, k0_pay115, k0_pay117, k0_pay119, k0_pay120, k0_pay121, k0_pay123, k0_pay124, k0_pay126, k0_pay127, k0_pay129, k0_pay130, bind_assoc, pure_bind]
  unfold body tail
  iterate 12 refine bind_congr rfl fun _ => ?_
  refine bind_congr ?_ fun st => ?_
  · refine congrArg₂ (Scf.Loop.for k0_t1_loop Facts₀.k0_t1_ok) rfl (funext fun k => funext fun st => ?_)
    simp only [Cert.KernelIdeal.Gen.k0_t1_body, k0_part1_eq_skeleton, k0_part1_skel, step, bind_assoc, pure_bind]
    rfl
  iterate 3 refine bind_congr rfl fun _ => ?_
  rename_i b b' _
  refine bind_congr (store_congr _ _ _ _ _ ?_) fun _ => ?_
  · simp only [k0_pay132, k0_pay133, k0_pay134, k0_pay135, k0_pay136, k0_pay137, k0_pay138, pay48, pay51, pay54, pay56, pay58, pay62, pay65, pay68, pay71, pay74, pay76, pay78, pay82, pay85, pay88, pay91, pay94, pay96, pay98, pay102, pay105, pay108, pay111, pay114, pay116, pay118, pay122, pay125, pay128, pay131]
    rfl
  refine bind_congr rfl fun _ => ?_
  refine bind_congr (store_congr _ _ _ _ _ ?_) fun _ => ?_
  · simp only [k0_pay132, k0_pay133, k0_pay134, k0_pay135, k0_pay136, k0_pay137, k0_pay138, pay48, pay51, pay54, pay56, pay58, pay62, pay65, pay68, pay71, pay74, pay76, pay78, pay82, pay85, pay88, pay91, pay94, pay96, pay98, pay102, pay105, pay108, pay111, pay114, pay116, pay118, pay122, pay125, pay128, pay131]
    rfl
  refine bind_congr rfl fun _ => ?_
  refine bind_congr (store_congr _ _ _ _ _ ?_) fun _ => ?_
  · simp only [k0_pay132, k0_pay133, k0_pay134, k0_pay135, k0_pay136, k0_pay137, k0_pay138, pay48, pay51, pay54, pay56, pay58, pay62, pay65, pay68, pay71, pay74, pay76, pay78, pay82, pay85, pay88, pay91, pay94, pay96, pay98, pay102, pay105, pay108, pay111, pay114, pay116, pay118, pay122, pay125, pay128, pay131]
    rfl
  refine bind_congr rfl fun _ => ?_
  refine bind_congr (store_congr _ _ _ _ _ ?_) fun _ => ?_
  · simp only [k0_pay132, k0_pay133, k0_pay134, k0_pay135, k0_pay136, k0_pay137, k0_pay138, pay48, pay51, pay54, pay56, pay58, pay62, pay65, pay68, pay71, pay74, pay76, pay78, pay82, pay85, pay88, pay91, pay94, pay96, pay98, pay102, pay105, pay108, pay111, pay114, pay116, pay118, pay122, pay125, pay128, pay131]
    rfl
  refine bind_congr rfl fun _ => ?_
  refine bind_congr (store_congr _ _ _ _ _ ?_) fun _ => ?_
  · simp only [k0_pay132, k0_pay133, k0_pay134, k0_pay135, k0_pay136, k0_pay137, k0_pay138, pay48, pay51, pay54, pay56, pay58, pay62, pay65, pay68, pay71, pay74, pay76, pay78, pay82, pay85, pay88, pay91, pay94, pay96, pay98, pay102, pay105, pay108, pay111, pay114, pay116, pay118, pay122, pay125, pay128, pay131]
    rfl
  refine bind_congr rfl fun _ => ?_
  refine bind_congr (store_congr _ _ _ _ _ ?_) fun _ => ?_
  · simp only [k0_pay132, k0_pay133, k0_pay134, k0_pay135, k0_pay136, k0_pay137, k0_pay138, pay48, pay51, pay54, pay56, pay58, pay62, pay65, pay68, pay71, pay74, pay76, pay78, pay82, pay85, pay88, pay91, pay94, pay96, pay98, pay102, pay105, pay108, pay111, pay114, pay116, pay118, pay122, pay125, pay128, pay131]
    rfl
  rfl

end Cert.KernelIdeal.Body
-- ==== Proof.Run.lean ====
/- The kernel's run: the selections as a pure iteration, the body's triple over it (the loop by its invariant), and the
   launch. -/
module

public import proofs.«01_k».proof.Proof.Body
public import proofs.«01_k».proof.Proof.BodyEq
public import proofs.«01_k».proof.Proof.Gen.KernelIdeal
public import proofs.«01_k».proof.Proof.Gen.KernelIdeal.Launch
public import proofs.«01_k».proof.Proof.Gen.KernelIdeal.Frame
public import Idealize.ShloMosaic.Lib.Pipeline.FrameSuffix
public import Idealize.ShloMosaic.Lib.Tactic
public import Idealize.ShloMosaic.Lib.Scf

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The selections as a pure iteration -/

/-- The scratch buffer's row that a checked word names. -/
abbrev rowRect (w : BitVec 32) (hw : k0_chk1 w) : Rect S1024x8x128 :=
  Rect.unit (s := S1024x8x128) (k0_off1 w) S1x8x128.size (k0_off1_inb w hw)

/-- What that row holds. -/
def rowOf (w : BitVec 32) (hw : k0_chk1 w) (z : FVec F S1024x8x128 .f32) : FVec F S1x8x128 .f32 :=
  ((Memref.whole cc0_scratch0 : Memref sig .tc .vmem S1024x8x128 .f32).access (rowRect w hw)).read (Elt F) z

/-- The buffer with that row replaced. -/
def setRow (w : BitVec 32) (hw : k0_chk1 w) (z : FVec F S1024x8x128 .f32) (v : FVec F S1x8x128 .f32) :
    FVec F S1024x8x128 .f32 :=
  ((Memref.whole cc0_scratch0 : Memref sig .tc .vmem S1024x8x128 .f32).access (rowRect w hw)).write (Elt F) z v Finset.univ

/-- Selection `k` on the carry and the scratch buffer's contents. -/
def trip (k : ℕ) (s : Carry F × FVec F S1024x8x128 .f32) : Carry F × FVec F S1024x8x128 .f32 :=
  if hw : k0_chk1 (topWord s.1.1) then
    (next (Scf.iv 0#32 1#32 k) s.1 (rowOf (topWord s.1.1) hw s.2),
      setRow (topWord s.1.1) hw s.2
        (shapeCast S1x8x128 (drop (topCol s.1.1 s.1.2.1) (rowOf (topWord s.1.1) hw s.2)) shapeCasts_S1x8x128_S1x8x128))
  else s

/-- The carry and the scratch buffer after `k` selections on the scores `p`. -/
def iter (p : FVec F S1024x1024 .f32) : ℕ → Carry F × FVec F S1024x8x128 .f32
  | 0 => (init p, slabs p)
  | k + 1 => trip k (iter p k)

/-- Every selection's row is inside the buffer. -/
def Sound (p : FVec F S1024x1024 .f32) : Prop := ∀ k : ℕ, k < 128 → k0_chk1 (topWord (iter p k).1.1)

/-- The whole of buffer `b` at `f`. -/
abbrev pt (c : Dev nD) {s : Shape} (M : Memref sig .tc .vmem s .f32) (f : Buf (Elt F) (M.view.loc (c : Thread nD τ))) : sProp 𝕄 :=
  M.view.loc (c : Thread nD τ) ↦{fullShare} f

/-- The loop's invariant: the scratch buffer and the carry at the iteration. -/
def inv (c : Dev nD) (p : FVec F S1024x1024 .f32) (k : ℕ) (st : Carry F) : sProp 𝕄 :=
  iprop(⌜st = (iter p k).1⌝ ∗ pt c (Memref.whole cc0_scratch0) (iter p k).2)

theorem trips_eq : k0_t1_loop.trips = 128 := by decide

/-- One selection keeps the invariant. -/
theorem step_sound (c : Dev nD) (p : FVec F S1024x1024 .f32) (hp : Sound p) (k : Fin k0_t1_loop.trips) (st : Carry F) :
    inv c p k st ⊢ wp frame (wpE (defs₀ (F := F)) Variants.none (c : Thread nD τ) none) Set.univ
      (step (Memref.whole cc0_scratch0) (Scf.iv 0#32 1#32 k) st) (inv c p (k.val + 1)) := by
  have hw : k0_chk1 (topWord (iter p k.val).1.1) := hp k.val (lt_of_lt_of_eq k.isLt trips_eq)
  have hs : iter p (k.val + 1) = _ := dif_pos hw
  unfold inv
  iintro ⟨%hst, H⟩
  subst hst
  rw [hs]
  unfold step
  simp only [Prog.lift, Prog.bind_op, Prog.bind_ret, Prog.pure_eq_ret]
  iapply (wp_assume Variants.none (c : Thread nD τ) none Set.univ hw)
  iapply (wp_load_rect Variants.none (c : Thread nD τ) none Set.univ (m := (Memref.whole cc0_scratch0 : Memref sig .tc .vmem S1024x8x128 .f32)) (r := rowRect _ hw) (Finset.subset_univ _)) $$ H; iintro H
  iapply (wp_load_rect Variants.none (c : Thread nD τ) none Set.univ (m := (Memref.whole cc0_scratch0 : Memref sig .tc .vmem S1024x8x128 .f32)) (r := rowRect _ hw) (Finset.subset_univ _)) $$ H; iintro H
  iapply (wp_store Variants.none (c : Thread nD τ) none Set.univ (m := (Memref.whole cc0_scratch0 : Memref sig .tc .vmem S1024x8x128 .f32)) (r := rowRect _ hw) (Mk := Finset.univ) (Finset.subset_univ _)) $$ H; iintro H
  sl_step
  isplitr; · ipureintro; rfl
  iexact H

/-! ## The body -/

theorem zeros2 : (![0, 0] : Fin 2 → ℕ) = fun _ => 0 := by funext a; fin_cases a <;> rfl
theorem zeros3 : (![0, 0, 0] : Fin 3 → ℕ) = fun _ => 0 := by funext a; fin_cases a <;> rfl

/-- A load at the head of a program, at what it reads. -/
theorem wp_ld (c : Dev nD) {s : Shape} (M : Memref sig .tc .vmem s .f32) (r : Rect s) {hl : M.view.LoadsAt r.toLoadRect}
    {z : Buf (Elt F) (M.view.loc (c : Thread nD τ))} {v : Vec F r.shape .f32}
    (hv : (M.access r).read (Elt F) z = v) {k : Vec F r.shape .f32 → Prog (TpuEff nD τ sig (Elt F) Λ₀ .tc) PUnit}
    {Q : PUnit → sProp 𝕄} :
    pt c M z ⊢ iprop((pt c M z -∗ wp frame (wpE (defs₀ (F := F)) Variants.none (c : Thread nD τ) none) Set.univ (k v) Q)
      -∗ wp frame (wpE (defs₀ (F := F)) Variants.none (c : Thread nD τ) none) Set.univ (.op (.load M r.toLoadRect hl) k) Q) := by
  subst hv
  exact wp_load_rect Variants.none (c : Thread nD τ) none Set.univ (m := M) (r := r) (Finset.subset_univ _)

/-- A store at the head of a program, at what it leaves. -/
theorem wp_st (c : Dev nD) {s : Shape} (M : Memref sig .tc .vmem s .f32) (r : Rect s) {w : Vec F r.shape .f32}
    {hx : (M.access r).Stores Finset.univ} {hm : (Finset.univ : Finset r.shape.Idx) = Finset.univ ∨ ∀ a, r.stride a = 1}
    {z z' : Buf (Elt F) (M.view.loc (c : Thread nD τ))}
    (hv : (M.access r).write (Elt F) z w Finset.univ = z') {k : PUnit → Prog (TpuEff nD τ sig (Elt F) Λ₀ .tc) PUnit}
    {Q : PUnit → sProp 𝕄} :
    pt c M z ⊢ iprop((pt c M z' -∗ wp frame (wpE (defs₀ (F := F)) Variants.none (c : Thread nD τ) none) Set.univ (k ⟨⟩) Q)
      -∗ wp frame (wpE (defs₀ (F := F)) Variants.none (c : Thread nD τ) none) Set.univ (.op (.store M r w Finset.univ hx hm) k) Q) := by
  subst hv
  exact wp_store Variants.none (c : Thread nD τ) none Set.univ (m := M) (r := r) (Mk := Finset.univ) (Finset.subset_univ _)

/-- What the body's inputs are, by name. -/
structure Ins (F : FTy → Type) [FloatOps F] where
  x : FVec F S1024x150 .f32
  f : FVec F S1024x1024 .f32
  b : FVec F S1024x4 .f32
  w1 : FVec F S150x256 .f32
  b1 : FVec F S1x256 .f32
  w2 : FVec F S256x1024 .f32
  b2 : FVec F S1x1024 .f32
  w3 : FVec F S150x256 .f32
  b3 : FVec F S1x256 .f32
  w4 : FVec F S256x1024 .f32
  b4 : FVec F S1x1024 .f32

/-- The scores the inputs give. -/
def Ins.p (I : Ins F) : FVec F S1024x1024 .f32 := scores (factor I.x I.f I.w1 I.b1 I.w2 I.b2) (factor I.x I.f I.w3 I.b3 I.w4 I.b4)
/-- The carry after the last selection. -/
def Ins.st (I : Ins F) : Carry F := (iter I.p 128).1
/-- The first boxes, the second, what is kept. -/
def Ins.sb (I : Ins F) : FVec F S128x4 .f32 := boxesAt I.st.2.2.2.1 I.b
@[inherit_doc Ins.sb] def Ins.ob (I : Ins F) : FVec F S128x4 .f32 := boxesAt I.st.2.2.2.2 I.b
@[inherit_doc Ins.sb] def Ins.kp (I : Ins F) : FVec F S1x128 .f32 := keep (over I.sb I.ob)
/-- The six results. -/
def Ins.o11 (I : Ins F) : FVec F S128x4 .f32 := outBox I.sb I.kp
@[inherit_doc Ins.o11] def Ins.o12 (I : Ins F) : FVec F S128x4 .f32 := outBox I.ob I.kp
@[inherit_doc Ins.o11] def Ins.o13 (I : Ins F) : FVec F S128x1024 .f32 := outFeat (featsAt I.st.2.2.2.1 I.f) I.kp
@[inherit_doc Ins.o11] def Ins.o14 (I : Ins F) : FVec F S128x1024 .f32 := outFeat (featsAt I.st.2.2.2.2 I.f) I.kp
@[inherit_doc Ins.o11] def Ins.o15 (I : Ins F) : FVec F S128x1024 .f32 := outFeat (mean (featsAt I.st.2.2.2.1 I.f) (featsAt I.st.2.2.2.2 I.f)) I.kp
@[inherit_doc Ins.o11] def Ins.o16 (I : Ins F) : FVec F S1x128 .f32 := mulf I.st.2.2.1 I.kp

set_option maxHeartbeats 1000000 in
/-- The body's triple: from the inputs in the staging buffers, the results in theirs. -/
theorem kernelRun (c : Dev nD) (I : Ins F) (hp : Sound I.p) (z11 : FVec F S128x4 .f32) (z12 : FVec F S128x4 .f32) (z13 : FVec F S128x1024 .f32) (z14 : FVec F S128x1024 .f32) (z15 : FVec F S128x1024 .f32) (z16 : FVec F S1x128 .f32)
    (z17 : FVec F S1024x8x128 .f32) (Q : PUnit → sProp 𝕄) :
    iprop(pt c (Memref.whole cc0_stg0_0) I.x ∗ pt c (Memref.whole cc0_stg1_0) I.f ∗ pt c (Memref.whole cc0_stg2_0) I.b ∗ pt c (Memref.whole cc0_stg3_0) I.w1 ∗ pt c (Memref.whole cc0_stg4_0) I.b1 ∗ pt c (Memref.whole cc0_stg5_0) I.w2 ∗ pt c (Memref.whole cc0_stg6_0) I.b2 ∗ pt c (Memref.whole cc0_stg7_0) I.w3 ∗ pt c (Memref.whole cc0_stg8_0) I.b3 ∗ pt c (Memref.whole cc0_stg9_0) I.w4 ∗ pt c (Memref.whole cc0_stg10_0) I.b4 ∗ pt c (Memref.whole cc0_stg11_0) z11 ∗ pt c (Memref.whole cc0_stg12_0) z12 ∗ pt c (Memref.whole cc0_stg13_0) z13 ∗ pt c (Memref.whole cc0_stg14_0) z14 ∗ pt c (Memref.whole cc0_stg15_0) z15 ∗ pt c (Memref.whole cc0_stg16_0) z16 ∗ pt c (Memref.whole cc0_scratch0) z17
      ∗ (pt c (Memref.whole cc0_stg0_0) I.x ∗ pt c (Memref.whole cc0_stg1_0) I.f ∗ pt c (Memref.whole cc0_stg2_0) I.b ∗ pt c (Memref.whole cc0_stg3_0) I.w1 ∗ pt c (Memref.whole cc0_stg4_0) I.b1 ∗ pt c (Memref.whole cc0_stg5_0) I.w2 ∗ pt c (Memref.whole cc0_stg6_0) I.b2 ∗ pt c (Memref.whole cc0_stg7_0) I.w3 ∗ pt c (Memref.whole cc0_stg8_0) I.b3 ∗ pt c (Memref.whole cc0_stg9_0) I.w4 ∗ pt c (Memref.whole cc0_stg10_0) I.b4 ∗ pt c (Memref.whole cc0_stg11_0) I.o11 ∗ pt c (Memref.whole cc0_stg12_0) I.o12 ∗ pt c (Memref.whole cc0_stg13_0) I.o13 ∗ pt c (Memref.whole cc0_stg14_0) I.o14 ∗ pt c (Memref.whole cc0_stg15_0) I.o15 ∗ pt c (Memref.whole cc0_stg16_0) I.o16 ∗ pt c (Memref.whole cc0_scratch0) (iter I.p k0_t1_loop.trips).2 -∗ Q ⟨⟩))
      ⊢ wp frame (wpE (defs₀ (F := F)) Variants.none (c : Thread nD τ) none) Set.univ
        (cc0__rpn_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) (Memref.whole cc0_stg16_0) (Memref.isWhole_whole _) (Memref.whole cc0_scratch0) (Memref.isWhole_whole _)) Q := by
  rw [body_eq]
  unfold body
  simp only [Prog.lift, Prog.bind_op, Prog.bind_ret, Prog.pure_eq_ret]
  iintro ⟨H0, H1, H2, H3, H4, H5, H6, H7, H8, H9, H10, H11, H12, H13, H14, H15, H16, H17, Hk⟩
  iapply (wp_ld c (Memref.whole cc0_stg0_0) _ (Memref.read_access_unit_zero (Elt F) cc0_stg0_0 zeros2 _ _)) $$ H0; iintro H0
  iapply (wp_ld c (Memref.whole cc0_stg1_0) _ (Memref.read_access_unit_zero (Elt F) cc0_stg1_0 zeros2 _ _)) $$ H1; iintro H1
  iapply (wp_ld c (Memref.whole cc0_stg3_0) _ (Memref.read_access_unit_zero (Elt F) cc0_stg3_0 zeros2 _ _)) $$ H3; iintro H3
  iapply (wp_ld c (Memref.whole cc0_stg4_0) _ (Memref.read_access_unit_zero (Elt F) cc0_stg4_0 zeros2 _ _)) $$ H4; iintro H4
  iapply (wp_ld c (Memref.whole cc0_stg5_0) _ (Memref.read_access_unit_zero (Elt F) cc0_stg5_0 zeros2 _ _)) $$ H5; iintro H5
  iapply (wp_ld c (Memref.whole cc0_stg6_0) _ (Memref.read_access_unit_zero (Elt F) cc0_stg6_0 zeros2 _ _)) $$ H6; iintro H6
  iapply (wp_ld c (Memref.whole cc0_stg7_0) _ (Memref.read_access_unit_zero (Elt F) cc0_stg7_0 zeros2 _ _)) $$ H7; iintro H7
  iapply (wp_ld c (Memref.whole cc0_stg8_0) _ (Memref.read_access_unit_zero (Elt F) cc0_stg8_0 zeros2 _ _)) $$ H8; iintro H8
  iapply (wp_ld c (Memref.whole cc0_stg9_0) _ (Memref.read_access_unit_zero (Elt F) cc0_stg9_0 zeros2 _ _)) $$ H9; iintro H9
  iapply (wp_ld c (Memref.whole cc0_stg10_0) _ (Memref.read_access_unit_zero (Elt F) cc0_stg10_0 zeros2 _ _)) $$ H10; iintro H10
  iapply (wp_ld c (Memref.whole cc0_scratch0) _ (Memref.read_access_unit_zero (Elt F) cc0_scratch0 zeros3 _ _)) $$ H17; iintro H17
  iapply (wp_st c (Memref.whole cc0_scratch0) _ (Memref.write_access_unit_zero_univ (Elt F) cc0_scratch0 zeros3 _ _ _)) $$ H17; iintro H17
  iapply (Scf.wp_for_bind frame (wpE (defs₀ (F := F)) Variants.none (c : Thread nD τ) none) Set.univ _ _ _ Facts₀.k0_t1_ok _ _
    (inv c I.p) (step_sound c I.p hp)) $$ [H17]
  · unfold inv
    isplitr; · ipureintro; rfl
    iexact H17
  iintro %st Hinv
  unfold inv; icases Hinv with ⟨%hst, H17⟩
  rw [show Scf.trips k0_t1_loop.lb k0_t1_loop.ub k0_t1_loop.st = 128 from trips_eq] at hst
  rw [show (iter I.p 128).1 = I.st from rfl] at hst
  subst hst
  unfold tail
  simp only [Prog.lift, Prog.bind_op, Prog.bind_ret, Prog.pure_eq_ret]
  iapply (wp_ld c (Memref.whole cc0_stg2_0) _ (Memref.read_access_unit_zero (Elt F) cc0_stg2_0 zeros2 _ _)) $$ H2; iintro H2
  iapply (wp_ld c (Memref.whole cc0_stg2_0) _ (Memref.read_access_unit_zero (Elt F) cc0_stg2_0 zeros2 _ _)) $$ H2; iintro H2
  iapply (wp_ld c (Memref.whole cc0_stg11_0) _ (Memref.read_access_unit_zero (Elt F) cc0_stg11_0 zeros2 _ _)) $$ H11; iintro H11
  iapply (wp_st c (Memref.whole cc0_stg11_0) _ (Memref.write_access_unit_zero_univ (Elt F) cc0_stg11_0 zeros2 _ _ _)) $$ H11; iintro H11
  iapply (wp_ld c (Memref.whole cc0_stg12_0) _ (Memref.read_access_unit_zero (Elt F) cc0_stg12_0 zeros2 _ _)) $$ H12; iintro H12
  iapply (wp_st c (Memref.whole cc0_stg12_0) _ (Memref.write_access_unit_zero_univ (Elt F) cc0_stg12_0 zeros2 _ _ _)) $$ H12; iintro H12
  iapply (wp_ld c (Memref.whole cc0_stg13_0) _ (Memref.read_access_unit_zero (Elt F) cc0_stg13_0 zeros2 _ _)) $$ H13; iintro H13
  iapply (wp_st c (Memref.whole cc0_stg13_0) _ (Memref.write_access_unit_zero_univ (Elt F) cc0_stg13_0 zeros2 _ _ _)) $$ H13; iintro H13
  iapply (wp_ld c (Memref.whole cc0_stg14_0) _ (Memref.read_access_unit_zero (Elt F) cc0_stg14_0 zeros2 _ _)) $$ H14; iintro H14
  iapply (wp_st c (Memref.whole cc0_stg14_0) _ (Memref.write_access_unit_zero_univ (Elt F) cc0_stg14_0 zeros2 _ _ _)) $$ H14; iintro H14
  iapply (wp_ld c (Memref.whole cc0_stg15_0) _ (Memref.read_access_unit_zero (Elt F) cc0_stg15_0 zeros2 _ _)) $$ H15; iintro H15
  iapply (wp_st c (Memref.whole cc0_stg15_0) _ (Memref.write_access_unit_zero_univ (Elt F) cc0_stg15_0 zeros2 _ _ _)) $$ H15; iintro H15
  iapply (wp_ld c (Memref.whole cc0_stg16_0) _ (Memref.read_access_unit_zero (Elt F) cc0_stg16_0 zeros2 _ _)) $$ H16; iintro H16
  iapply (wp_st c (Memref.whole cc0_stg16_0) _ (Memref.write_access_unit_zero_univ (Elt F) cc0_stg16_0 zeros2 _ _ _)) $$ H16; iintro H16
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Cert.KernelIdeal.Run
-- ==== Proof.Read.lean ====
/- The body's values read at extended reals: the greatest of the row maxima, the first row at it, and the fact that this
   row's word is a row of the scratch buffer, so that every selection's check passes. -/
module

public import proofs.«01_k».proof.Proof.Run
public import Idealize.ShloMosaic.PureOps.Ideal.Laws
public import Idealize.ShloMosaic.Lib.Pointwise
public import Idealize.ShloMosaic.Lib.IdealHost

@[expose] public section

set_option maxRecDepth 16384

noncomputable section

namespace Cert.KernelIdeal.Read

open Cert.KernelIdeal.Run Cert.KernelIdeal Cert.KernelIdeal.Body
open Idealize.ShloMosaic Idealize.SL.Sem

variable [Facts]
open Facts₀ Facts

/-! ## Constants -/

/-- The value put where no place is a candidate. -/
abbrev far : EReal := Ideal.ofBits .f32 0x4EEE6B28#32

/-- Minus infinity's bits. -/
theorem bits_bot : Ideal.ofBits .f32 0xFF800000#32 = ⊥ := by simp [Ideal.ofBits, Ideal.ieee]
/-- Plus infinity's bits. -/
theorem bits_top : Ideal.ofBits .f32 0x7F800000#32 = ⊤ := by simp [Ideal.ofBits, Ideal.ieee]
/-- Zero's bits. -/
theorem bits_zero : Ideal.ofBits .f32 0x00000000#32 = 0 := by simp [Ideal.ofBits, Ideal.ieee]

/-- A number below 1024 as an extended real. -/
abbrev num (n : ℕ) : EReal := ((n : ℝ) : EReal)

/-- Every place's number is below the value put where no place is a candidate. -/
theorem num_lt_far (n : ℕ) (h : n < 1024) : num n < far := by
  have e : far = ((2000000000 : ℝ) : EReal) := by
    simp [far, Ideal.ofBits, Ideal.ieee, -EReal.coe_mul]; norm_num
  rw [e]
  have h' : (n : ℝ) < 1024 := by exact_mod_cast h
  exact EReal.coe_lt_coe_iff.2 (by linarith)

theorem num_le {a b : ℕ} : num a ≤ num b ↔ a ≤ b := by simp [num]
theorem num_inj {a b : ℕ} : num a = num b ↔ a = b := by simp [num]

/-! ## Folds -/

instance : Subsingleton S1.Idx := ⟨fun a b => by funext x; fin_cases x; exact Subsingleton.elim (α := Fin 1) _ _⟩

/-- A maximum over every place. -/
theorem max_all {s : Shape} {axes : List (Fin s.rank)} (src : FVec Ideal s .f32) (h : s.Reduces axes S1) (j : S1.Idx) :
    multiReduction .maximumf axes S1 src 0xFF800000#32 h (.inl rfl) rfl j = Finset.univ.sup src := by
  refine (multiReduction_maximumf_eq_fold src _ h (.inl rfl) rfl j).trans ?_
  rw [Finset.filter_true_of_mem fun i _ => Subsingleton.elim _ _]
  change Finset.fold max (Ideal.ofBits .f32 0xFF800000#32) src _ = _
  rw [bits_bot]; rfl

/-- A minimum over every place. -/
theorem min_all {s : Shape} {axes : List (Fin s.rank)} (src : FVec Ideal s .f32) (h : s.Reduces axes S1) (j : S1.Idx) :
    multiReduction .minimumf axes S1 src 0x7F800000#32 h (.inl rfl) rfl j = Finset.univ.inf src := by
  refine (multiReduction_minimumf_eq_fold src _ h (.inl rfl) rfl j).trans ?_
  rw [Finset.filter_true_of_mem fun i _ => Subsingleton.elim _ _]
  change Finset.fold min (Ideal.ofBits .f32 0x7F800000#32) src _ = _
  rw [bits_top]; rfl

/-- A reshape keeps the greatest value. -/
theorem sup_shapeCast {s t : Shape} (x : FVec Ideal s .f32) (h : t.numel = s.numel) :
    Finset.univ.sup (shapeCast t x h) = Finset.univ.sup x :=
  le_antisymm (Finset.sup_le fun i _ => Finset.le_sup (f := x) (Finset.mem_univ (Shape.reshapeEquiv h i)))
    (Finset.sup_le fun i _ => by
      have := Finset.le_sup (f := shapeCast t x h) (Finset.mem_univ ((Shape.reshapeEquiv h).symm i))
      simpa [shapeCast] using this)

/-- A reshape keeps the least value. -/
theorem inf_shapeCast {s t : Shape} (x : FVec Ideal s .f32) (h : t.numel = s.numel) :
    Finset.univ.inf (shapeCast t x h) = Finset.univ.inf x :=
  le_antisymm (Finset.le_inf fun i _ => by
      have := Finset.inf_le (f := shapeCast t x h) (Finset.mem_univ ((Shape.reshapeEquiv h).symm i))
      simpa [shapeCast] using this)
    (Finset.le_inf fun i _ => Finset.inf_le (f := x) (Finset.mem_univ (Shape.reshapeEquiv h i)))

/-- The least number among the candidates is a candidate's, and no candidate's is less. -/
theorem first_spec {ι : Type} [Fintype ι] (f : ι → ℕ) (hf : ∀ i, f i < 1024) (P : ι → Prop) [DecidablePred P]
    (h : ∃ i, P i) : ∃ i, P i ∧ (∀ i', P i' → f i ≤ f i')
      ∧ Finset.univ.inf (fun i => if P i then num (f i) else far) = num (f i) := by
  obtain ⟨i, hi, hmin⟩ := Finset.exists_min_image (Finset.univ.filter P) f (by
    obtain ⟨i, hi⟩ := h; exact ⟨i, by simpa using hi⟩)
  have hP : P i := by simpa using hi
  have hm : ∀ i', P i' → f i ≤ f i' := fun i' h' => hmin i' (by simpa using h')
  refine ⟨i, hP, hm, le_antisymm ?_ (Finset.le_inf fun i' _ => ?_)⟩
  · exact (Finset.inf_le (Finset.mem_univ i)).trans (le_of_eq (if_pos hP))
  · split
    · exact num_le.2 (hm _ ‹_›)
    · exact (num_lt_far _ (hf i)).le

/-! ## Places -/

/-- A place's number among 8 rows of 128. -/
abbrev pos8 (i : S8x128.Idx) : ℕ := (S8x128.rowMajor i).val
/-- A place's number in a slab. -/
abbrev pos1 (i : S1x8x128.Idx) : ℕ := (S1x8x128.rowMajor i).val

theorem pos8_eq (i : S8x128.Idx) : pos8 i = (i 0).val * 128 + (i 1).val := by
  exact Shape.rowMajor_val_two i
theorem pos8_lt (i : S8x128.Idx) : pos8 i < 1024 := by
  have h0 : (i 0).val < 8 := (i 0).isLt
  have h1 : (i 1).val < 128 := (i 1).isLt
  rw [pos8_eq]; omega
theorem pos1_eq (i : S1x8x128.Idx) : pos1 i = (i 1).val * 128 + (i 2).val := by
  have h0 : (i 0).val < 1 := (i 0).isLt
  have h := Shape.rowMajor_val_three i
  have e0 : (i 0).val = 0 := by omega
  rw [e0] at h
  simpa using h
theorem pos1_lt (i : S1x8x128.Idx) : pos1 i < 1024 := by
  have h0 : (i 1).val < 8 := (i 1).isLt
  have h1 : (i 2).val < 128 := (i 2).isLt
  rw [pos1_eq]; omega

theorem word_num (a b : ℕ) (ha : a < 8) (hb : b < 128) :
    ((BitVec.ofNat 32 a * 128#32 + BitVec.ofNat 32 b).toInt) = ((a * 128 + b : ℕ) : ℤ) := by
  have : BitVec.ofNat 32 a * 128#32 + BitVec.ofNat 32 b = BitVec.ofNat 32 (a * 128 + b) := by
    apply BitVec.eq_of_toNat_eq; simp
  rw [this, BitVec.toInt_ofNat']
  simp only [Int.bmod_def]; omega

theorem place8_apply (i : S8x128.Idx) : (place8 : FVec Ideal S8x128 .f32) i = num (pos8 i) := by
  rw [pos8_eq]
  change (((IntOp.addi (IntOp.muli (BitVec.ofNat 32 (0 * _ + (i 0).val)) 128#32) (BitVec.ofNat 32 (0 * _ + (i 1).val))).toInt : ℝ) : EReal) = _
  have := word_num (i 0).val (i 1).val (i 0).isLt (i 1).isLt
  simp only [Nat.zero_mul, Nat.zero_add]
  change ((((BitVec.ofNat 32 (i 0).val * 128#32 + BitVec.ofNat 32 (i 1).val).toInt : ℤ) : ℝ) : EReal) = _
  rw [this]; simp [num]

theorem place1_apply (i : S1x8x128.Idx) : (place1 : FVec Ideal S1x8x128 .f32) i = num (pos1 i) := by
  rw [pos1_eq]
  change (((IntOp.addi (IntOp.muli (BitVec.ofNat 32 (0 * _ + (i 1).val)) 128#32) (BitVec.ofNat 32 (0 * _ + (i 2).val))).toInt : ℝ) : EReal) = _
  have := word_num (i 1).val (i 2).val (i 1).isLt (i 2).isLt
  simp only [Nat.zero_mul, Nat.zero_add]
  change ((((BitVec.ofNat 32 (i 1).val * 128#32 + BitVec.ofNat 32 (i 2).val).toInt : ℤ) : ℝ) : EReal) = _
  rw [this]; simp [num]

/-! ## The choice of a row -/

theorem top_apply (rm : FVec Ideal S8x128 .f32) (j : S1x1.Idx) : top rm j = Finset.univ.sup rm :=
  (max_all _ _ _).trans (sup_shapeCast rm _)

theorem least8_apply (x : FVec Ideal S8x128 .f32) (j : S1x1.Idx) : least8 x j = Finset.univ.inf x :=
  (min_all _ _ _).trans (inf_shapeCast x _)

/-- An equality test's selection. -/
theorem select_oeq {s : Shape} {α : Type} (x y : FVec Ideal s .f32) (a b : s.Idx → α) (i : s.Idx) :
    select (cmpf .oeq x y) a b i = if x i = y i then a i else b i := by
  change (if Ideal.cmp .oeq (x i) (y i) = 1#1 then a i else b i) = _
  by_cases h : x i = y i <;> simp [Ideal.cmp, h]

theorem sup_attained (rm : FVec Ideal S8x128 .f32) : ∃ i, rm i = Finset.univ.sup rm := by
  obtain ⟨i, -, hi⟩ := Finset.exists_mem_eq_sup (Finset.univ : Finset S8x128.Idx) ⟨fun a => ⟨0, by fin_cases a <;> decide⟩, Finset.mem_univ _⟩ rm
  exact ⟨i, hi.symm⟩

/-- The row chosen: the first at the greatest row maximum. -/
theorem topRow_spec (rm : FVec Ideal S8x128 .f32) : ∃ i, rm i = Finset.univ.sup rm
    ∧ (∀ i', rm i' = Finset.univ.sup rm → pos8 i ≤ pos8 i') ∧ ∀ j, topRow rm j = num (pos8 i) := by
  obtain ⟨i, h1, h2, h3⟩ := first_spec pos8 pos8_lt (fun i => rm i = Finset.univ.sup rm) (sup_attained rm)
  refine ⟨i, h1, h2, fun j => ?_⟩
  rw [← h3, topRow, least8_apply]
  congr 1; funext i
  rw [select_oeq, place8_apply]
  have e : broadcastTo S8x128 (top rm) broadcasts_S1x1_S8x128 i = Finset.univ.sup rm := top_apply rm _
  rw [e]
  rfl

/-- A number below 1024 turned to a word. -/
theorem fptosi_num (n : ℕ) (h : n < 1024) : Ideal.fptosi 32 (num n) = BitVec.ofNat 32 n := by
  unfold Ideal.fptosi num
  rw [Ideal.toIntClamped_coe, if_pos (Nat.cast_nonneg n), Int.floor_natCast]
  have : max (-((2 ^ (32 - 1) : ℕ) : ℤ)) (min (((2 ^ (32 - 1) : ℕ) : ℤ) - 1) (n : ℤ)) = n := by norm_num; omega
  rw [this]; rfl

theorem topWord_eq (rm : FVec Ideal S8x128 .f32) (i : S8x128.Idx) (h : ∀ j, topRow rm j = num (pos8 i)) :
    topWord rm = BitVec.ofNat 32 (pos8 i) :=
  (congrArg (Ideal.fptosi 32) (h _)).trans (fptosi_num _ (pos8_lt i))

theorem chk_of_lt (n : ℕ) (h : n < 1024) : k0_chk1 (BitVec.ofNat 32 n) := by
  intro a
  fin_cases a
  · change (BitVec.ofNat 32 n).toNat + 1 ≤ 1024
    rw [BitVec.toNat_ofNat]; omega
  · exact le_refl _
  · exact le_refl _

/-- The chosen row is always a row of the scratch buffer. -/
theorem chk_topWord (rm : FVec Ideal S8x128 .f32) : k0_chk1 (topWord rm) := by
  obtain ⟨i, -, -, h⟩ := topRow_spec rm
  rw [topWord_eq rm i h]
  exact chk_of_lt _ (pos8_lt i)

/-- Every selection's check passes. -/
theorem sound (p : FVec Ideal S1024x1024 .f32) : Sound p := fun k _ => chk_topWord _

end Cert.KernelIdeal.Read

end
-- ==== Proof.Launch.lean ====
/- The launch: the pipeline's proof data, the body obligation, and the run of the whole program, whose end is known at
   every result and argument. -/
module

public import proofs.«01_k».proof.Proof.Run
public import proofs.«01_k».proof.Proof.Gen.KernelIdeal
public import proofs.«01_k».proof.Proof.Gen.KernelIdeal.Launch
public import proofs.«01_k».proof.Proof.Gen.KernelIdeal.Frame
public import Idealize.ShloMosaic.Lib.Pipeline.FrameSuffix
public import Idealize.ShloMosaic.Lib.Tactic
public import Idealize.ShloMosaic.Lib.Scf

@[expose] public section

set_option maxRecDepth 16384

noncomputable section

namespace Cert.KernelIdeal.Launch

open Cert.KernelIdeal.Run Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's inputs, read off the launch memory. -/
def ins (c : Dev nD) : Ins F where
  x := iblk m c 0 t0_0
  f := iblk m c 1 t0_0
  b := iblk m c 2 t0_0
  w1 := iblk m c 3 t0_0
  b1 := iblk m c 4 t0_0
  w2 := iblk m c 5 t0_0
  b2 := iblk m c 6 t0_0
  w3 := iblk m c 7 t0_0
  b3 := iblk m c 8 t0_0
  w4 := iblk m c 9 t0_0
  b4 := iblk m c 10 t0_0

/-- The pipeline's proof data: the arrays as the region finds them; after the body each input's block in place and each
    result at the body's value. -/
def dats (_ : Fin 1) (c : Dev nD) : Dat τ (Elt F) Unit ℕ (UR sig nD τ) ℕ cfg0 c where
  A w := V m c (Pipeline.arrRef spec0 w)
  after w t := match w with
    | ⟨0, _⟩ => (ins m c).x
    | ⟨1, _⟩ => (ins m c).f
    | ⟨2, _⟩ => (ins m c).b
    | ⟨3, _⟩ => (ins m c).w1
    | ⟨4, _⟩ => (ins m c).b1
    | ⟨5, _⟩ => (ins m c).w2
    | ⟨6, _⟩ => (ins m c).b2
    | ⟨7, _⟩ => (ins m c).w3
    | ⟨8, _⟩ => (ins m c).b3
    | ⟨9, _⟩ => (ins m c).w4
    | ⟨10, _⟩ => (ins m c).b4
    | ⟨11, _⟩ => (ins m c).o11
    | ⟨12, _⟩ => (ins m c).o12
    | ⟨13, _⟩ => (ins m c).o13
    | ⟨14, _⟩ => (ins m c).o14
    | ⟨15, _⟩ => (ins m c).o15
    | ⟨16, _⟩ => (ins m c).o16
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! Each input's staging buffer holds its block when the body runs. -/

theorem before_0 (c : Dev nD) (d) : (dats m 0 c).before 0 t0_0 d = (ins m c).x := by
  rw [before0_0_of m (dats m 0 c) (A_eq m c 0) (fun t => by obtain rfl := fin_N0 t; dsimp only [dats, ins])]; dsimp only [ins]
theorem before_1 (c : Dev nD) (d) : (dats m 0 c).before 1 t0_0 d = (ins m c).f := by
  rw [before0_1_of m (dats m 0 c) (A_eq m c 1) (fun t => by obtain rfl := fin_N0 t; dsimp only [dats, ins])]; dsimp only [ins]
theorem before_2 (c : Dev nD) (d) : (dats m 0 c).before 2 t0_0 d = (ins m c).b := by
  rw [before0_2_of m (dats m 0 c) (A_eq m c 2) (fun t => by obtain rfl := fin_N0 t; dsimp only [dats, ins])]; dsimp only [ins]
theorem before_3 (c : Dev nD) (d) : (dats m 0 c).before 3 t0_0 d = (ins m c).w1 := by
  rw [before0_3_of m (dats m 0 c) (A_eq m c 3) (fun t => by obtain rfl := fin_N0 t; dsimp only [dats, ins])]; dsimp only [ins]
theorem before_4 (c : Dev nD) (d) : (dats m 0 c).before 4 t0_0 d = (ins m c).b1 := by
  rw [before0_4_of m (dats m 0 c) (A_eq m c 4) (fun t => by obtain rfl := fin_N0 t; dsimp only [dats, ins])]; dsimp only [ins]
theorem before_5 (c : Dev nD) (d) : (dats m 0 c).before 5 t0_0 d = (ins m c).w2 := by
  rw [before0_5_of m (dats m 0 c) (A_eq m c 5) (fun t => by obtain rfl := fin_N0 t; dsimp only [dats, ins])]; dsimp only [ins]
theorem before_6 (c : Dev nD) (d) : (dats m 0 c).before 6 t0_0 d = (ins m c).b2 := by
  rw [before0_6_of m (dats m 0 c) (A_eq m c 6) (fun t => by obtain rfl := fin_N0 t; dsimp only [dats, ins])]; dsimp only [ins]
theorem before_7 (c : Dev nD) (d) : (dats m 0 c).before 7 t0_0 d = (ins m c).w3 := by
  rw [before0_7_of m (dats m 0 c) (A_eq m c 7) (fun t => by obtain rfl := fin_N0 t; dsimp only [dats, ins])]; dsimp only [ins]
theorem before_8 (c : Dev nD) (d) : (dats m 0 c).before 8 t0_0 d = (ins m c).b3 := by
  rw [before0_8_of m (dats m 0 c) (A_eq m c 8) (fun t => by obtain rfl := fin_N0 t; dsimp only [dats, ins])]; dsimp only [ins]
theorem before_9 (c : Dev nD) (d) : (dats m 0 c).before 9 t0_0 d = (ins m c).w4 := by
  rw [before0_9_of m (dats m 0 c) (A_eq m c 9) (fun t => by obtain rfl := fin_N0 t; dsimp only [dats, ins])]; dsimp only [ins]
theorem before_10 (c : Dev nD) (d) : (dats m 0 c).before 10 t0_0 d = (ins m c).b4 := by
  rw [before0_10_of m (dats m 0 c) (A_eq m c 10) (fun t => by obtain rfl := fin_N0 t; dsimp only [dats, ins])]; dsimp only [ins]

set_option maxHeartbeats 2000000 in
/-- The body obligation: the staging buffers taken apart, the body's triple, put back. -/
theorem body_obligation (c : Dev nD) (hp : Sound (ins m c).p) :
    BodyObligation (dats m 0 c) (defs₀ (F := F)) Variants.none () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl]
  unfold Pipeline.ΦA Dat.owesAt Pipeline.owesWithin; rw [scopedRest0_eq]
  rw [show (dats m 0 c).owed t0_0.castSucc = 0 from rfl, show (dats m 0 c).owed t0_0.succ = 0 from rfl]
  iintro ⟨⟨⟨%fs, H17⟩, Hr⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  rw [before_7] at hf7; subst hf7
  rw [before_8] at hf8; subst hf8
  rw [before_9] at hf9; subst hf9
  rw [before_10] at hf10; subst hf10
  iapply (kernelRun c (ins m c) hp f11 f12 f13 f14 f15 f16 fs)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  isplitl [H17 Hr]
  · isplitl [H17]; · iexists _; iexact H17
    iexact Hr
  isplitl [HO]
  · iexists W; isplitr; · ipureintro; exact fun _ _ => Or.inl trivial
    iexact HO
  isplitl [H0]
  · iexists _; isplitr; swap; (· iexact H0); ipureintro; dsimp only [dats]; try rfl
  isplitl [H1]
  · iexists _; isplitr; swap; (· iexact H1); ipureintro; dsimp only [dats]; try rfl
  isplitl [H2]
  · iexists _; isplitr; swap; (· iexact H2); ipureintro; dsimp only [dats]; try rfl
  isplitl [H3]
  · iexists _; isplitr; swap; (· iexact H3); ipureintro; dsimp only [dats]; try rfl
  isplitl [H4]
  · iexists _; isplitr; swap; (· iexact H4); ipureintro; dsimp only [dats]; try rfl
  isplitl [H5]
  · iexists _; isplitr; swap; (· iexact H5); ipureintro; dsimp only [dats]; try rfl
  isplitl [H6]
  · iexists _; isplitr; swap; (· iexact H6); ipureintro; dsimp only [dats]; try rfl
  isplitl [H7]
  · iexists _; isplitr; swap; (· iexact H7); ipureintro; dsimp only [dats]; try rfl
  isplitl [H8]
  · iexists _; isplitr; swap; (· iexact H8); ipureintro; dsimp only [dats]; try rfl
  isplitl [H9]
  · iexists _; isplitr; swap; (· iexact H9); ipureintro; dsimp only [dats]; try rfl
  isplitl [H10]
  · iexists _; isplitr; swap; (· iexact H10); ipureintro; dsimp only [dats]; try rfl
  isplitl [H11]
  · iexists _; isplitr; swap; (· iexact H11); ipureintro; dsimp only [dats]; try rfl
  isplitl [H12]
  · iexists _; isplitr; swap; (· iexact H12); ipureintro; dsimp only [dats]; try rfl
  isplitl [H13]
  · iexists _; isplitr; swap; (· iexact H13); ipureintro; dsimp only [dats]; try rfl
  isplitl [H14]
  · iexists _; isplitr; swap; (· iexact H14); ipureintro; dsimp only [dats]; try rfl
  isplitl [H15]
  · iexists _; isplitr; swap; (· iexact H15); ipureintro; dsimp only [dats]; try rfl
  iexists _; isplitr; swap; (· iexact H16); ipureintro; dsimp only [dats]; try rfl

-- the launch theorem's implicit arguments are found by unifying its conclusion with this one, which takes unfolding plain
-- definitions in a metavariable's type
set_option backward.isDefEq.respectTransparency.types false in
/-- The run: every window's array at what the pipeline computes, every other buffer at what the lines after the region
    leave, every semaphore counter at zero. -/
theorem run (hp : ∀ c : Dev nD, Sound (ins m c).p) :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (fun c => (body_obligation m c (hp c)).loose) (fun c w => (dats m 0 c).share_full (fun _ => rfl) w) (fun _ _ => rfl) (V0 m) [hostOps1] sfx_sub sfx_fresh sfx_keeps
    (hmain m Variants.none) (A_eq m) (fun _ _ => rfl) _ (fun _ h => h)

end Cert.KernelIdeal.Launch
-- ==== Proof.Frames.lean ====
/- The two programs run, leave their arguments as they were and every semaphore at zero. -/
module

public import proofs.«01_k».proof.Defs
public import proofs.«01_k».proof.Proof.Read
public import proofs.«01_k».proof.Proof.Launch
public import proofs.«01_k».proof.Proof.Gen.ReferenceIdeal
public import proofs.«01_k».proof.Proof.Gen.ReferenceIdeal.Run

@[expose] public section

set_option maxRecDepth 16384

noncomputable section

namespace Cert.KernelIdeal.Frames

open Cert.KernelIdeal Cert.KernelIdeal.Gen
open Idealize.ShloMosaic Idealize.SL.Sem

set_option maxHeartbeats 1020000 in
/-- The kernel runs, its arguments end unchanged and every semaphore at zero. -/
theorem frame : Cert.quiescent_KernelIdeal := by
  intro m g _
  refine (θ_run defs _ _).mono (fun r h => ?_) (Launch.run m g fun c => Read.sound _)
  refine ⟨fun c => ?_, h.2⟩
  have h := h.1
  exact ⟨(((h c).2 main_arg0 (Pipeline.mem_restRefs_of main_arg0 (by decide) (by decide))).trans (W_main_arg0 m (Launch.dats m) c)),
      (((h c).2 main_arg1 (Pipeline.mem_restRefs_of main_arg1 (by decide) (by decide))).trans (W_main_arg1 m (Launch.dats m) c)),
      (((h c).2 main_arg2 (Pipeline.mem_restRefs_of main_arg2 (by decide) (by decide))).trans (W_main_arg2 m (Launch.dats m) c)),
      ((h c).1 3).trans (((Launch.dats m 0 c).arrAt_in 3 rfl _).trans ((Launch.A_eq m c 3).trans (V_main_arg3 m c))),
      (((h c).2 main_arg4 (Pipeline.mem_restRefs_of main_arg4 (by decide) (by decide))).trans (W_main_arg4 m (Launch.dats m) c)),
      ((h c).1 5).trans (((Launch.dats m 0 c).arrAt_in 5 rfl _).trans ((Launch.A_eq m c 5).trans (V_main_arg5 m c))),
      (((h c).2 main_arg6 (Pipeline.mem_restRefs_of main_arg6 (by decide) (by decide))).trans (W_main_arg6 m (Launch.dats m) c)),
      ((h c).1 7).trans (((Launch.dats m 0 c).arrAt_in 7 rfl _).trans ((Launch.A_eq m c 7).trans (V_main_arg7 m c))),
      (((h c).2 main_arg8 (Pipeline.mem_restRefs_of main_arg8 (by decide) (by decide))).trans (W_main_arg8 m (Launch.dats m) c)),
      ((h c).1 9).trans (((Launch.dats m 0 c).arrAt_in 9 rfl _).trans ((Launch.A_eq m c 9).trans (V_main_arg9 m c))),
      (((h c).2 main_arg10 (Pipeline.mem_restRefs_of main_arg10 (by decide) (by decide))).trans (W_main_arg10 m (Launch.dats m) c))⟩

end Cert.KernelIdeal.Frames

namespace Cert.ReferenceIdeal.Frames

open Cert.ReferenceIdeal Cert.ReferenceIdeal.Gen Cert.ReferenceIdeal.Value
open Idealize.ShloMosaic Idealize.SL.Sem Idealize.ShloMosaic.StableHlo

/-- What the stretch after the loop writes. -/
abbrev tail_W : List (Ref sig .tc) :=
  [main_v105, main_v106, main_v107, main_v108, main_v109, main_v110, main_c_15, main_v111, main_v112, main_c_16, main_v113, main_v114, main_v115, main_v116, main_v117, main_c_17, main_v118, main_v119, main_c_18, main_v120, main_v121, main_v122, main_v123, main_v124, main_v125, main_cst_19, main_v126, main_v127, main_v128, main_v129, main_v130, main_v131, main_v132, main_v133, main_v134, main_v135]

/-- What the reference's stretches write. -/
abbrev written : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W ++ hostOps0_11_W ++ hostOps0_12_W ++ hostOps0_13_W ++ hostOps0_14_W
    ++ hostOps0_15_W ++ hostOps0_16_W ++ tail_W ++ while0Ops0_W ++ while0Ops0_1_W ++ while0Ops0_2_W ++ condOps_W

/-- The arguments. -/
abbrev args : List (Ref sig .tc) :=
  [main_arg0, main_arg1, main_arg2, main_arg3, main_arg4, main_arg5, main_arg6, main_arg7, main_arg8, main_arg9, main_arg10]

variable {F : FTy → Type} [FloatOps F]

set_option maxHeartbeats 1000000 in
theorem tail_writes : (hostOps0_17 : List (HloOp τ sig (Elt F))).Forall fun op =>
    op.writes ⊆ (tail_W.map (Proc.devRef (τ := τ) .tc)).toFinset :=
  StableHlo.forall_writes_sub_of_map rfl

theorem args_not_written : ∀ b ∈ args, b ∉ written := by decide +kernel

variable (m : (ℓ : Loc nD τ sig) → Buf (Elt F) ℓ)

/-- A buffer no stretch before the loop writes enters the loop as launched. -/
theorem entry_kept (c : Dev nD) (b : Ref sig .tc) (hb : b ∉ written) :
    entryContents preI m c (Proc.devRef .tc b) = m ((c.tc : Thread nD τ).loc b) := by
  simp only [written, List.mem_append, not_or] at hb
  unfold entryContents
  simp only [afterL_cons, afterL_nil]
  rw [after_of_writes_sub _ _ hostOps0_16_writes (by tauto), after_of_writes_sub _ _ hostOps0_15_writes (by tauto),
    after_of_writes_sub _ _ hostOps0_14_writes (by tauto), after_of_writes_sub _ _ hostOps0_13_writes (by tauto),
    after_of_writes_sub _ _ hostOps0_12_writes (by tauto), after_of_writes_sub _ _ hostOps0_11_writes (by tauto),
    after_of_writes_sub _ _ hostOps0_10_writes (by tauto), after_of_writes_sub _ _ hostOps0_9_writes (by tauto),
    after_of_writes_sub _ _ hostOps0_8_writes (by tauto), after_of_writes_sub _ _ hostOps0_7_writes (by tauto),
    after_of_writes_sub _ _ hostOps0_6_writes (by tauto), after_of_writes_sub _ _ hostOps0_5_writes (by tauto),
    after_of_writes_sub _ _ hostOps0_4_writes (by tauto), after_of_writes_sub _ _ hostOps0_3_writes (by tauto),
    after_of_writes_sub _ _ hostOps0_2_writes (by tauto), after_of_writes_sub _ _ hostOps0_1_writes (by tauto),
    after_of_writes_sub _ _ hostOps0_writes (by tauto)]

/-- No trip writes it either. -/
theorem atK_kept (c : Dev nD) (b : Ref sig .tc) (hb : b ∉ written) : ∀ k : ℕ,
    atK m k c (Proc.devRef .tc b) = m ((c.tc : Thread nD τ).loc b)
  | 0 => entry_kept m c b hb
  | k + 1 => by
    have ih := atK_kept c b hb k
    simp only [written, List.mem_append, not_or] at hb
    rw [show atK m (k + 1) c = afterL bodyI (after condOps (atK m k c)) from rfl]
    simp only [afterL_cons, afterL_nil]
    rw [after_of_writes_sub _ _ while0Ops0_2_writes (by tauto), after_of_writes_sub _ _ while0Ops0_1_writes (by tauto),
      after_of_writes_sub _ _ while0Ops0_writes (by tauto), after_of_writes_sub _ _ condOps_writes (by tauto), ih]

/-- Nor does what follows the loop. -/
theorem final_kept (c : Dev nD) (b : Ref sig .tc) (hb : b ∉ written) :
    finalContents condOps preI bodyI postI 128 m c (Proc.devRef .tc b) = m ((c.tc : Thread nD τ).loc b) := by
  have ih := atK_kept m c b hb 128
  simp only [written, List.mem_append, not_or] at hb
  unfold finalContents
  simp only [afterL_cons, afterL_nil]
  rw [after_of_writes_sub _ _ tail_writes (by tauto), after_of_writes_sub _ _ condOps_writes (by tauto)]
  exact ih

/-- The reference runs, its arguments end unchanged and every semaphore at zero. -/
theorem frame : Cert.quiescent_ReferenceIdeal := by
  intro m g _
  refine (θ_run defs _ _).mono (fun r h => ?_) (run_fold m g)
  refine ⟨fun c => ?_, ?_⟩
  · have k : ∀ b ∈ args, (Proc.devRef .tc b : DevRef τ sig).isScoped = false →
        r.2.mem ((c.tc : Thread nD τ).loc b) = m ((c.tc : Thread nD τ).loc b) := fun b hb hs =>
      (h c b hs).trans (final_kept m c b (args_not_written b hb))
    exact ⟨k _ (by decide) rfl, k _ (by decide) rfl, k _ (by decide) rfl, k _ (by decide) rfl, k _ (by decide) rfl,
      k _ (by decide) rfl, k _ (by decide) rfl, k _ (by decide) rfl, k _ (by decide) rfl, k _ (by decide) rfl,
      k _ (by decide) rfl⟩
  · funext ⟨t, s⟩
    rcases s with s | s
    · exact Fin.elim0 s
    · exact Fin.elim0 s

end Cert.ReferenceIdeal.Frames

end
-- ==== Proof.Select.lean ====
/- The 128 selections read at extended reals: each takes the first place, by row and then by column, of the greatest value
   left in the scratch buffer, and puts minus infinity there. -/
module

public import proofs.«01_k».proof.Proof.Read

@[expose] public section

set_option maxRecDepth 16384

noncomputable section

namespace Cert.KernelIdeal.Read

open Cert.KernelIdeal.Run Cert.KernelIdeal Cert.KernelIdeal.Body
open Idealize.ShloMosaic Idealize.SL.Sem

variable [Facts]
open Facts₀ Facts

/-! ## Values of a slab -/

theorem slabMax_apply (s : FVec Ideal S1x8x128 .f32) (j : S1x1.Idx) : slabMax s j = Finset.univ.sup s :=
  (max_all _ _ _).trans (sup_shapeCast s _)

/-- The column kept for a slab: the first at the slab's maximum. -/
theorem slabArg_spec (s : FVec Ideal S1x8x128 .f32) : ∃ l, s l = Finset.univ.sup s
    ∧ (∀ l', s l' = Finset.univ.sup s → pos1 l ≤ pos1 l') ∧ ∀ j, slabArg s j = num (pos1 l) := by
  have hex : ∃ l, s l = Finset.univ.sup s := by
    obtain ⟨l, -, hl⟩ := Finset.exists_mem_eq_sup (Finset.univ : Finset S1x8x128.Idx) ⟨fun a => ⟨0, by fin_cases a <;> decide⟩, Finset.mem_univ _⟩ s
    exact ⟨l, hl.symm⟩
  obtain ⟨l, h1, h2, h3⟩ := first_spec pos1 pos1_lt (fun l => s l = Finset.univ.sup s) hex
  refine ⟨l, h1, h2, fun j => ?_⟩
  rw [← h3, slabArg]
  refine ((min_all _ _ _).trans (inf_shapeCast _ _)).trans ?_
  congr 1; funext l'
  rw [select_oeq, place1_apply]
  have e : broadcastTo S1x8x128 (shapeCast S1x1x1 (slabMax s) shapeCasts_S1x1_S1x1x1) broadcasts_S1x1x1_S1x8x128 l'
    = Finset.univ.sup s := by
    rw [show slabMax s = fun _ => Finset.univ.sup s from funext (slabMax_apply s)]; rfl
  rw [e]
  rfl

theorem put8_apply (rm : FVec Ideal S8x128 .f32) (i₀ : S8x128.Idx) (h : ∀ j, topRow rm j = num (pos8 i₀))
    (a : FVec Ideal S1x1 .f32) (e : EReal) (ha : ∀ j, a j = e) (x : FVec Ideal S8x128 .f32) (i : S8x128.Idx) :
    put8 (topHit rm) a x i = if i = i₀ then e else x i := by
  unfold put8 topHit
  rw [select_oeq, place8_apply]
  have e1 : broadcastTo S8x128 (topRow rm) broadcasts_S1x1_S8x128 i = num (pos8 i₀) := h _
  have e2 : broadcastTo S8x128 (shapeCast S1x1 a shapeCasts_S1x1_S1x1) broadcasts_S1x1_S8x128 i = e := ha _
  rw [e1, e2]
  have : (num (pos8 i) = num (pos8 i₀)) ↔ i = i₀ := by
    rw [num_inj]
    exact ⟨fun h => S8x128.rowMajor.injective (Fin.ext h), fun h => by rw [h]⟩
  simp only [this]

theorem drop_apply (c : FVec Ideal S1x1 .f32) (l₀ : S1x8x128.Idx) (h : ∀ j, c j = num (pos1 l₀))
    (s : FVec Ideal S1x8x128 .f32) (l : S1x8x128.Idx) : drop c s l = if l = l₀ then ⊥ else s l := by
  unfold drop
  rw [select_oeq, place1_apply]
  have e1 : broadcastTo S1x8x128 (shapeCast S1x1x1 c shapeCasts_S1x1_S1x1x1) broadcasts_S1x1x1_S1x8x128 l
    = num (pos1 l₀) := h _
  have e2 : (broadcast S1x8x128 (Scalar.ofBits .f32 0xFF800000#32) : FVec Ideal S1x8x128 .f32) l = ⊥ := bits_bot
  rw [e1, e2]
  have : (num (pos1 l) = num (pos1 l₀)) ↔ l = l₀ := by
    rw [num_inj]
    exact ⟨fun h => S1x8x128.rowMajor.injective (Fin.ext h), fun h => by rw [h]⟩
  simp only [this]

/-- The column chosen is the one kept for the row chosen. -/
theorem topCol_apply (rm rc : FVec Ideal S8x128 .f32) (i₀ : S8x128.Idx) (h : ∀ j, topRow rm j = num (pos8 i₀))
    (n : ℕ) (hn : n < 1024) (hc : rc i₀ = num n) (j : S1x1.Idx) : topCol rm rc j = num n := by
  rw [topCol, least8_apply]
  have e : ∀ i, select (topHit rm) rc (broadcast S8x128 (Scalar.ofBits .f32 0x4EEE6B28#32)) i
      = if i = i₀ then rc i else far := by
    intro i
    unfold topHit
    rw [select_oeq, place8_apply]
    have e1 : broadcastTo S8x128 (topRow rm) broadcasts_S1x1_S8x128 i = num (pos8 i₀) := h _
    rw [e1]
    have : (num (pos8 i) = num (pos8 i₀)) ↔ i = i₀ := by
      rw [num_inj]
      exact ⟨fun h => S8x128.rowMajor.injective (Fin.ext h), fun h => by rw [h]⟩
    simp only [this]; rfl
  refine le_antisymm ?_ (Finset.le_inf fun i _ => ?_)
  · refine (Finset.inf_le (Finset.mem_univ i₀)).trans (le_of_eq ?_)
    rw [e, if_pos rfl, hc]
  · rw [e]; split
    · subst i; rw [hc]
    · exact (num_lt_far _ hn).le

theorem word_inj {a b : ℕ} (ha : a < 1024) (hb : b < 1024) : BitVec.ofNat 32 a = BitVec.ofNat 32 b ↔ a = b := by
  constructor
  · intro h
    have := congrArg BitVec.toNat h
    simp only [BitVec.toNat_ofNat] at this
    omega
  · rintro rfl; rfl

theorem putLane_apply (k : ℕ) (hk : k < 128) (a : FVec Ideal S1x1 .f32) (e : EReal) (ha : ∀ j, a j = e)
    (x : FVec Ideal S1x128 .f32) (b : Fin 128) :
    putLane (Scf.iv 0#32 1#32 k) a x (ix2 0 b) = if b.val = k then e else x (ix2 0 b) := by
  have hiv : Scf.iv 0#32 1#32 k = BitVec.ofNat 32 k := by
    apply BitVec.eq_of_toNat_eq; simp [Scf.iv]
  have hp : putLane (Scf.iv 0#32 1#32 k) a x (ix2 0 b)
      = Scalar.select (IntOp.cmpi .eq (BitVec.ofNat 32 b.val) (Scf.iv 0#32 1#32 k)) (a (ix2 0 0)) (x (ix2 0 b)) := by
    pointwise [putLane]
  rw [hp, hiv, ha]
  have := word_inj (a := b.val) (b := k) (by omega) (by omega)
  by_cases hb : b.val = k
  · rw [if_pos hb, hb]; simp [Scalar.select, IntOp.cmpi]
  · have h' : (BitVec.ofNat 32 b.val == BitVec.ofNat 32 k) = false := by
      rw [beq_eq_false_iff_ne]; exact fun h => hb (this.1 h)
    rw [if_neg hb]; simp [Scalar.select, IntOp.cmpi, h']

/-! ## The scratch buffer -/

/-- The value at a row and a column. -/
def cell (z : FVec Ideal S1024x8x128 .f32) (i : S8x128.Idx) (l : S1x8x128.Idx) : EReal :=
  z (ix3 ⟨pos8 i, pos8_lt i⟩ (l 1) (l 2))

theorem word_toNat (n : ℕ) (h : n < 1024) : (BitVec.ofNat 32 n).toNat = n := by
  rw [BitVec.toNat_ofNat]; omega

theorem rowOf_apply (w : BitVec 32) (hw : k0_chk1 w) (i : S8x128.Idx) (h : w = BitVec.ofNat 32 (pos8 i))
    (z : FVec Ideal S1024x8x128 .f32) (l : S1x8x128.Idx) : Run.rowOf w hw z l = cell z i l := by
  subst h
  unfold Run.rowOf cell
  rw [View.read_apply]
  change z _ = z _
  congr 1
  have h0 : (l 0).val < 1 := (l 0).isLt
  funext a; apply Fin.ext
  fin_cases a
  · change (BitVec.ofNat 32 (pos8 i)).toNat + 1 * (l 0).val = pos8 i
    rw [word_toNat _ (pos8_lt i)]; omega
  · change 0 + 1 * (l 1).val = (l 1).val; omega
  · change 0 + 1 * (l 2).val = (l 2).val; omega

theorem cell_setRow (w : BitVec 32) (hw : k0_chk1 w) (i : S8x128.Idx) (h : w = BitVec.ofNat 32 (pos8 i))
    (z : FVec Ideal S1024x8x128 .f32) (v : FVec Ideal S1x8x128 .f32) (i' : S8x128.Idx) (l : S1x8x128.Idx) :
    cell (setRow w hw z v) i' l = if i' = i then v l else cell z i' l := by
  subst h
  have h0 : (l 0).val < 1 := (l 0).isLt
  by_cases hi : i' = i
  · subst hi
    rw [if_pos rfl]
    have he : (ix3 ⟨pos8 i', pos8_lt i'⟩ (l 1) (l 2) : S1024x8x128.Idx)
        = ((Memref.whole cc0_scratch0 : Memref sig .tc .vmem S1024x8x128 .f32).access (rowRect _ hw)).emb l := by
      funext a; apply Fin.ext
      fin_cases a
      · change pos8 i' = (BitVec.ofNat 32 (pos8 i')).toNat + 1 * (l 0).val
        rw [word_toNat _ (pos8_lt i')]; omega
      · change (l 1).val = 0 + 1 * (l 1).val; omega
      · change (l 2).val = 0 + 1 * (l 2).val; omega
    unfold cell setRow
    rw [he]
    exact View.write_emb_of_mem _ _ (Finset.mem_univ l)
  · rw [if_neg hi]
    unfold cell setRow
    refine View.write_of_not_mem _ _ _ fun hm => hi ?_
    obtain ⟨x, -, hx⟩ := Finset.mem_map.1 hm
    have h1 := congrArg (fun j : S1024x8x128.Idx => (j 0).val) hx
    change (BitVec.ofNat 32 (pos8 i)).toNat + 1 * (x 0).val = pos8 i' at h1
    have hx0 : (x 0).val < 1 := (x 0).isLt
    rw [word_toNat _ (pos8_lt i)] at h1
    exact S8x128.rowMajor.injective (Fin.ext (show pos8 i' = pos8 i by omega))

/-! ## One selection -/

/-- What the carry says of the scratch buffer: each row's maximum, and its first column at the maximum. -/
def Kept (s : Carry Ideal × FVec Ideal S1024x8x128 .f32) : Prop :=
  ∀ i, s.1.1 i = Finset.univ.sup (cell s.2 i) ∧ ∃ l, cell s.2 i l = Finset.univ.sup (cell s.2 i)
    ∧ (∀ l', cell s.2 i l' = Finset.univ.sup (cell s.2 i) → pos1 l ≤ pos1 l') ∧ s.1.2.1 i = num (pos1 l)

/-- A place is the first, by row and then by column, of the greatest value. -/
def Leads (z : FVec Ideal S1024x8x128 .f32) (i : S8x128.Idx) (l : S1x8x128.Idx) : Prop :=
  ∀ i' l', cell z i' l' < cell z i l
    ∨ (cell z i' l' = cell z i l ∧ (pos8 i < pos8 i' ∨ pos8 i = pos8 i' ∧ pos1 l ≤ pos1 l'))

/-- One selection takes the first place of the greatest value, records it in lane `k` and puts minus infinity there. -/
theorem trip_spec (k : ℕ) (hk : k < 128) (s : Carry Ideal × FVec Ideal S1024x8x128 .f32) (hs : Kept s) :
    ∃ i l, Leads s.2 i l ∧ Kept (trip k s)
      ∧ (∀ i' l', cell (trip k s).2 i' l' = if i' = i ∧ l' = l then ⊥ else cell s.2 i' l')
      ∧ (∀ b : Fin 128, (trip k s).1.2.2.1 (ix2 0 b) = if b.val = k then cell s.2 i l else s.1.2.2.1 (ix2 0 b))
      ∧ (∀ b : Fin 128, (trip k s).1.2.2.2.1 (ix2 0 b) = if b.val = k then num (pos8 i) else s.1.2.2.2.1 (ix2 0 b))
      ∧ (∀ b : Fin 128, (trip k s).1.2.2.2.2 (ix2 0 b) = if b.val = k then num (pos1 l) else s.1.2.2.2.2 (ix2 0 b)) := by
  obtain ⟨i, hi, hfirst, hrow⟩ := topRow_spec s.1.1
  obtain ⟨him, l, hl, hlfirst, hlc⟩ := hs i
  have hcol := topCol_apply s.1.1 s.1.2.1 i hrow (pos1 l) (pos1_lt l) hlc
  have hword := topWord_eq s.1.1 i hrow
  have hw : k0_chk1 (topWord s.1.1) := chk_topWord _
  have ht : trip k s = (next (Scf.iv 0#32 1#32 k) s.1 (Run.rowOf (topWord s.1.1) hw s.2),
      setRow (topWord s.1.1) hw s.2
        (shapeCast S1x8x128 (drop (topCol s.1.1 s.1.2.1) (Run.rowOf (topWord s.1.1) hw s.2)) shapeCasts_S1x8x128_S1x8x128)) :=
    dif_pos hw
  have htop : ∀ j, top s.1.1 j = cell s.2 i l := fun j => by rw [top_apply, ← hi, him, hl]
  -- the slab written back
  have hslab : ∀ l', drop (topCol s.1.1 s.1.2.1) (Run.rowOf (topWord s.1.1) hw s.2) l' = if l' = l then ⊥ else cell s.2 i l' := by
    intro l'
    rw [drop_apply _ l hcol, rowOf_apply _ hw i hword]
  have hcell : ∀ i' l', cell (trip k s).2 i' l' = if i' = i ∧ l' = l then ⊥ else cell s.2 i' l' := by
    intro i' l'
    rw [ht]
    refine (cell_setRow _ hw i hword _ _ i' l').trans ?_
    by_cases h : i' = i
    · subst h
      rw [if_pos rfl]
      have e : shapeCast S1x8x128 (drop (topCol s.1.1 s.1.2.1) (Run.rowOf (topWord s.1.1) hw s.2)) shapeCasts_S1x8x128_S1x8x128 l'
          = drop (topCol s.1.1 s.1.2.1) (Run.rowOf (topWord s.1.1) hw s.2) l' := by
        rw [shapeCast_self]
      rw [e, hslab]
      simp
    · rw [if_neg h, if_neg fun h' => h h'.1]
  refine ⟨i, l, ?_, ?_, hcell, ?_, ?_, ?_⟩
  · intro i' l'
    have h1 : cell s.2 i' l' ≤ s.1.1 i' := by rw [(hs i').1]; exact Finset.le_sup (Finset.mem_univ l')
    have h2 : s.1.1 i' ≤ cell s.2 i l := by rw [hl, ← him, hi]; exact Finset.le_sup (Finset.mem_univ i')
    rcases lt_or_eq_of_le (h1.trans h2) with h | h
    · exact .inl h
    · refine .inr ⟨h, ?_⟩
      have h3 : s.1.1 i' = Finset.univ.sup s.1.1 := by
        rw [← hi, him, ← hl]; exact le_antisymm h2 (h ▸ h1)
      have h4 := hfirst i' h3
      rcases Nat.lt_or_ge (pos8 i) (pos8 i') with h5 | h5
      · exact .inl h5
      · have h6 : pos8 i = pos8 i' := le_antisymm h4 h5
        have h7 : i = i' := S8x128.rowMajor.injective (Fin.ext h6)
        subst h7
        exact .inr ⟨rfl, hlfirst l' (h.trans hl)⟩
  · have hfun : ∀ i', i' ≠ i → cell (trip k s).2 i' = cell s.2 i' := fun i' h => by
      funext l'; rw [hcell, if_neg fun h' => h h'.1]
    have hfun' : cell (trip k s).2 i = drop (topCol s.1.1 s.1.2.1) (Run.rowOf (topWord s.1.1) hw s.2) := by
      funext l'; rw [hcell, hslab]; simp
    obtain ⟨m, hm1, hm2, hm3⟩ := slabArg_spec (drop (topCol s.1.1 s.1.2.1) (Run.rowOf (topWord s.1.1) hw s.2))
    intro i'
    have e1 : (trip k s).1.1 i' = if i' = i then Finset.univ.sup (drop (topCol s.1.1 s.1.2.1) (Run.rowOf (topWord s.1.1) hw s.2)) else s.1.1 i' := by
      rw [ht]; exact put8_apply s.1.1 i hrow _ _ (slabMax_apply _) _ _
    have e2 : (trip k s).1.2.1 i' = if i' = i then num (pos1 m) else s.1.2.1 i' := by
      rw [ht]; exact put8_apply s.1.1 i hrow _ _ hm3 _ _
    by_cases h : i' = i
    · subst h
      rw [e1, e2, if_pos rfl, if_pos rfl, hfun']
      exact ⟨rfl, m, hm1, hm2, rfl⟩
    · rw [e1, e2, if_neg h, if_neg h, hfun i' h]
      exact hs i'
  · intro b; rw [ht]; exact putLane_apply k hk _ _ htop _ b
  · intro b; rw [ht]; exact putLane_apply k hk _ _ hrow _ b
  · intro b; rw [ht]; exact putLane_apply k hk _ _ hcol _ b

/-! ## The start -/

/-- The place of a column's number. -/
def place (n : ℕ) (h : n < 1024) : S1x8x128.Idx := ix3 0 ⟨n / 128, by omega⟩ ⟨n % 128, by omega⟩

theorem pos1_place (n : ℕ) (h : n < 1024) : pos1 (place n h) = n := by
  rw [pos1_eq]; change n / 128 * 128 + n % 128 = n; omega

theorem cell_slabs (p : FVec Ideal S1024x1024 .f32) (i : S8x128.Idx) (l : S1x8x128.Idx) :
    cell (slabs p) i l = p (ix2 ⟨pos8 i, pos8_lt i⟩ ⟨pos1 l, pos1_lt l⟩) := by
  have h : ∀ (r : Fin 1024) (a : Fin 8) (b : Fin 128), slabs p (ix3 r a b) = p (ix2 r ⟨a.val * 128 + b.val, by omega⟩) := by
    intro r a b; pointwise [slabs]
  have e : (⟨pos1 l, pos1_lt l⟩ : Fin 1024) = ⟨(l 1).val * 128 + (l 2).val, by rw [← pos1_eq]; exact pos1_lt l⟩ :=
    Fin.ext (pos1_eq l)
  rw [e]
  exact h _ _ _

theorem kept_start (p : FVec Ideal S1024x1024 .f32) : Kept (init p, slabs p) := by
  intro i
  obtain ⟨a, b, hi⟩ : ∃ (a : Fin 8) (b : Fin 128), i = ix2 a b := ⟨i 0, i 1, by funext x; fin_cases x <;> rfl⟩
  have hr : ∀ (hlt : a.val * 128 + b.val < 1024), (⟨a.val * 128 + b.val, hlt⟩ : Fin 1024) = ⟨pos8 i, pos8_lt i⟩ :=
    fun _ => Fin.ext (by rw [hi]; exact (pos8_eq (ix2 a b)).symm)
  have h1 : rowMax p i = Finset.univ.sup (cell (slabs p) i) := by
    have hm : rowMax p (ix2 a b) = Finset.fold max (Ideal.ofBits .f32 0xFF800000#32)
        (fun x : Fin 1024 => p (ix2 ⟨a.val * 128 + b.val, by omega⟩ x)) Finset.univ := by
      pointwise [rowMax]
    rw [← hi] at hm
    rw [hm, bits_bot, hr]
    change Finset.univ.sup (fun x : Fin 1024 => p (ix2 _ x)) = _
    refine le_antisymm (Finset.sup_le fun x _ => ?_) (Finset.sup_le fun l _ => ?_)
    · have := Finset.le_sup (f := cell (slabs p) i) (Finset.mem_univ (place x.val x.isLt))
      rw [cell_slabs] at this
      simpa only [pos1_place] using this
    · rw [cell_slabs]
      exact Finset.le_sup (f := fun x : Fin 1024 => p (ix2 _ x)) (Finset.mem_univ _)
  simp only [init]
  refine ⟨h1, ?_⟩
  have h2 : rowArg p (ix2 a b) = Finset.fold min (Ideal.ofBits .f32 0x7F800000#32)
      (fun x : Fin 1024 => if p (ix2 ⟨a.val * 128 + b.val, by omega⟩ x) = rowMax p (ix2 a b)
        then FloatOps.sitofp .f32 (BitVec.ofNat 32 x.val) else Ideal.ofBits .f32 0x4EEE6B28#32) Finset.univ := by
    pointwise [rowArg]
  rw [← hi, bits_top, hr, h1] at h2
  have hex : ∃ x : Fin 1024, p (ix2 ⟨pos8 i, pos8_lt i⟩ x) = Finset.univ.sup (cell (slabs p) i) := by
    obtain ⟨l, -, hl⟩ := Finset.exists_mem_eq_sup (Finset.univ : Finset S1x8x128.Idx) ⟨place 0 (by omega), Finset.mem_univ _⟩ (cell (slabs p) i)
    exact ⟨_, (cell_slabs p i l).symm.trans hl.symm⟩
  obtain ⟨x, hx1, hx2, hx3⟩ := first_spec (fun x : Fin 1024 => x.val) (fun x => x.isLt) _ hex
  refine ⟨place x.val x.isLt, ?_, fun l' hl' => ?_, ?_⟩
  · rw [cell_slabs]; simp only [pos1_place]; exact hx1
  · rw [pos1_place]; rw [cell_slabs] at hl'
    exact hx2 _ hl'
  · rw [pos1_place, ← hx3]
    have hn : ∀ y : Fin 1024, (FloatOps.sitofp .f32 (BitVec.ofNat 32 y.val) : Ideal .f32) = num y.val := by
      intro y
      change ((((BitVec.ofNat 32 y.val).toInt : ℤ) : ℝ) : EReal) = _
      have h := y.isLt
      have : (BitVec.ofNat 32 y.val).toInt = (y.val : ℤ) := by
        rw [BitVec.toInt_ofNat']; simp only [Int.bmod_def]; omega
      rw [this]; simp [num]
    simp only [hn] at h2
    exact h2

/-! ## All selections -/

theorem iter_succ (p : FVec Ideal S1024x1024 .f32) (k : ℕ) : iter p (k + 1) = trip k (iter p k) := rfl

/-- Selection `k` takes row `i` and column `l`. -/
def Taken (p : FVec Ideal S1024x1024 .f32) (k : ℕ) (i : S8x128.Idx) (l : S1x8x128.Idx) : Prop :=
  Leads (iter p k).2 i l
    ∧ (∀ i' l', cell (iter p (k + 1)).2 i' l' = if i' = i ∧ l' = l then ⊥ else cell (iter p k).2 i' l')
    ∧ (∀ b : Fin 128, (iter p (k + 1)).1.2.2.1 (ix2 0 b) = if b.val = k then cell (iter p k).2 i l else (iter p k).1.2.2.1 (ix2 0 b))
    ∧ (∀ b : Fin 128, (iter p (k + 1)).1.2.2.2.1 (ix2 0 b) = if b.val = k then num (pos8 i) else (iter p k).1.2.2.2.1 (ix2 0 b))
    ∧ (∀ b : Fin 128, (iter p (k + 1)).1.2.2.2.2 (ix2 0 b) = if b.val = k then num (pos1 l) else (iter p k).1.2.2.2.2 (ix2 0 b))

/-- The places chosen: `si k`, `sl k` at selection `k`. After `k` selections the buffer holds minus infinity at them and
    the scores elsewhere; each is the first place of the greatest value left; the lanes hold their values and numbers. -/
theorem picks (p : FVec Ideal S1024x1024 .f32) : ∃ (si : ℕ → S8x128.Idx) (sl : ℕ → S1x8x128.Idx),
    ∀ k ≤ 128, Kept (iter p k)
      ∧ (∀ i l, cell (iter p k).2 i l = if ∃ j < k, i = si j ∧ l = sl j then ⊥ else cell (slabs p) i l)
      ∧ (k < 128 → Leads (iter p k).2 (si k) (sl k))
      ∧ (∀ b : Fin 128, b.val < k → (iter p k).1.2.2.1 (ix2 0 b) = cell (iter p b.val).2 (si b.val) (sl b.val)
          ∧ (iter p k).1.2.2.2.1 (ix2 0 b) = num (pos8 (si b.val)) ∧ (iter p k).1.2.2.2.2 (ix2 0 b) = num (pos1 (sl b.val))) := by
  have hkept : ∀ k ≤ 128, Kept (iter p k) := by
    intro k
    induction k with
    | zero => intro _; exact kept_start p
    | succ k ih =>
      intro hk
      obtain ⟨i, l, -, h, -⟩ := trip_spec k (by omega) (iter p k) (ih (by omega))
      rw [iter_succ]
      exact h
  have hstep : ∀ k, ∃ i l, k < 128 → Taken p k i l := by
    intro k
    by_cases hk : k < 128
    · obtain ⟨i, l, h1, -, h2, h3, h4, h5⟩ := trip_spec k hk (iter p k) (hkept k (by omega))
      rw [← iter_succ] at h2 h3 h4 h5
      exact ⟨i, l, fun _ => ⟨h1, h2, h3, h4, h5⟩⟩
    · exact ⟨fun a => ⟨0, by fin_cases a <;> decide⟩, place 0 (by omega), fun h => absurd h hk⟩
  choose si sl hs using hstep
  refine ⟨si, sl, fun k => ?_⟩
  induction k with
  | zero =>
    intro _
    refine ⟨hkept 0 (by omega), fun i l => ?_, fun h => (hs 0 h).1, fun b hb => absurd hb (by omega)⟩
    rw [if_neg (by rintro ⟨j, hj, -⟩; omega)]; simp only [iter]
  | succ k ih =>
    intro hk
    obtain ⟨-, ihc, -, ihl⟩ := ih (by omega)
    obtain ⟨-, hc, hv, hr, hcl⟩ := hs k (by omega)
    refine ⟨hkept _ hk, fun i l => ?_, fun h => (hs _ h).1, fun b hb => ?_⟩
    · refine (hc i l).trans ?_
      rw [ihc]
      by_cases h : i = si k ∧ l = sl k
      · rw [if_pos h, if_pos ⟨k, by omega, h⟩]
      · rw [if_neg h]
        have : (∃ j < k + 1, i = si j ∧ l = sl j) ↔ ∃ j < k, i = si j ∧ l = sl j := by
          constructor
          · rintro ⟨j, hj, h'⟩
            rcases Nat.lt_or_ge j k with h2 | h2
            · exact ⟨j, h2, h'⟩
            · have : j = k := by omega
              subst this; exact absurd h' h
          · rintro ⟨j, hj, h'⟩; exact ⟨j, by omega, h'⟩
        simp only [this]
    · have e1 := hv b; have e2 := hr b; have e3 := hcl b
      by_cases h : b.val = k
      · rw [if_pos h] at e1 e2 e3
        rw [h]; exact ⟨e1, e2, e3⟩
      · rw [if_neg h] at e1 e2 e3
        rw [e1, e2, e3]
        exact ihl b (by omega)

end Cert.KernelIdeal.Read

end
-- ==== Proof.TopK.lean ====
/- The host's top-k read as a choice of positions, and the kernel's 128 selections shown to be that choice. -/
module

public import proofs.«01_k».proof.Proof.Select
public import Idealize.ShloMosaic.Lib.SortPrefix

@[expose] public section

set_option maxRecDepth 16384

noncomputable section

namespace Cert.KernelIdeal.TopK

open Idealize.ShloMosaic

/-! ## The host's top-k -/

/-- A stable sort uses its order only from a later position to an earlier one. -/
theorem stableSort_later {ι : Type} (R B : ι → ι → Bool) (l : List ι) (h : l.Pairwise fun a b => R b a = B b a) :
    stableSort R l = stableSort B l := by
  induction l with
  | nil => rfl
  | cons a l ih =>
    rw [List.pairwise_cons] at h
    unfold stableSort
    rw [ih h.2]
    exact insertBefore_congr' a _ fun b hb => h.1 b ((perm_stableSort B l).mem_iff.1 hb)
where
  insertBefore_congr' (a : ι) (m : List ι) (h : ∀ b ∈ m, R b a = B b a) : insertBefore R a m = insertBefore B a m := by
    induction m with
    | nil => rfl
    | cons b m ih =>
      unfold insertBefore
      rw [h b (by simp), ih fun c hc => h c (by simp [hc])]

/-- The order of positions by greater value, and then by earlier position. -/
def Before {n : ℕ} (x : Fin n → EReal) (k k' : Fin n) : Prop := x k' < x k ∨ x k = x k' ∧ k < k'

/-- The sort by greater value is the sort by greater value and then by earlier position. -/
theorem sortedFrom_later {n : ℕ} (x : Fin n → EReal) (R : Fin n → Fin n → Bool) (hR : ∀ k k', R k k' = decide (x k' < x k)) :
    sortedFrom R = sortedFrom fun k k' => decide (x k' < x k) || (decide (x k = x k') && decide (k < k')) := by
  have h : sortPositions n R = sortPositions n fun k k' => decide (x k' < x k) || (decide (x k = x k') && decide (k < k')) := by
    refine stableSort_later _ _ _ ?_
    refine (List.pairwise_lt_finRange n).imp fun {a b} hab => ?_
    have : ¬ b < a := not_lt.2 hab.le
    simp [hR, this]
  funext k
  unfold sortedFrom
  rw [List.get_of_eq h]
  rfl

/-- Positions `σ` that no position outside of them, nor a later one of them, is before are the ones the top-k takes. -/
theorem topK_eq {n m : ℕ} (x : (⟨1, ![n]⟩ : Shape).Idx → EReal) (hm : m ≤ n) (h : (⟨1, ![n]⟩ : Shape).Slices (fun _ => 0) ⟨1, ![m]⟩)
    (σ : Fin m → Fin n) (hinj : Function.Injective σ)
    (hord : ∀ i j : Fin m, i < j → ¬ Before (fun k => x (ix1 k)) (σ j) (σ i))
    (hdom : ∀ (i : Fin m) (q : Fin n), (∀ j, σ j ≠ q) → ¬ Before (fun k => x (ix1 k)) q (σ i)) (b : Fin m) :
    (Host.topK ⟨1, ![m]⟩ 0 (FloatOps.cmpfTotal (F := Ideal) (φ := .f32) .gt) x h).1 (ix1 b) = x (ix1 (σ b))
      ∧ (Host.topK ⟨1, ![m]⟩ 0 (FloatOps.cmpfTotal (F := Ideal) (φ := .f32) .gt) x h).2 (ix1 b) = BitVec.ofNat 32 (σ b).val := by
  have halong : ∀ (j : (⟨1, ![n]⟩ : Shape).Idx) (k : Fin n), j.along ⟨0, Nat.zero_lt_one⟩ k = ix1 k := by
    intro j k; funext a; fin_cases a; unfold Shape.Idx.along; exact Function.update_self ..
  have hB := StrictTotalBefore.of_key_then_position (fun a b : EReal => decide (b < a)) (fun k : Fin n => x (ix1 k))
    (by simp) (by simp; intro a b c h1 h2; exact h2.trans h1)
    (by intro a b; rcases lt_trichotomy b a with h | h | h <;> simp [h])
  have key : sortedFrom (fun k k' => FloatOps.cmpfTotal (F := Ideal) (φ := .f32) .gt (x (ix1 k)) (x (ix1 k')) == 1#1) (b.castLE hm) = σ b := by
    rw [sortedFrom_later (fun k => x (ix1 k)) _ (fun k k' => ?_)]
    · refine hB.sortedFrom_eq_of_prefix hm σ hinj (fun i j hij => ?_) (fun i q hq => ?_) b
      · have := hord i j hij
        rw [← Bool.not_eq_true]; simpa [Before] using this
      · have := hdom i q hq
        rw [← Bool.not_eq_true]; simpa [Before] using this
    · change (Ideal.cmp .ogt (x (ix1 k)) (x (ix1 k')) == 1#1) = _
      by_cases h : x (ix1 k') < x (ix1 k) <;> simp [Ideal.cmp, h]
  have hpos : (⟨0 + b.val, by omega⟩ : Fin n) = b.castLE hm := Fin.ext (Nat.zero_add _)
  have key' : ∀ (q : Fin n), q = b.castLE hm → ∀ j : (⟨1, ![n]⟩ : Shape).Idx,
      sortedFrom (fun k k' => FloatOps.cmpfTotal (F := Ideal) (φ := .f32) .gt (x (j.along ⟨0, Nat.zero_lt_one⟩ k))
        (x (j.along ⟨0, Nat.zero_lt_one⟩ k')) == 1#1) q = σ b := by
    intro q hq j
    subst hq
    have hfun : (fun k k' : Fin n => FloatOps.cmpfTotal (F := Ideal) (φ := .f32) .gt (x (j.along ⟨0, Nat.zero_lt_one⟩ k))
        (x (j.along ⟨0, Nat.zero_lt_one⟩ k')) == 1#1)
      = fun k k' => FloatOps.cmpfTotal (F := Ideal) (φ := .f32) .gt (x (ix1 k)) (x (ix1 k')) == 1#1 :=
      funext fun k => funext fun k' => congrArg₂ (fun a b => FloatOps.cmpfTotal (F := Ideal) (φ := .f32) .gt a b == 1#1)
        (congrArg x (halong j k)) (congrArg x (halong j k'))
    exact (congrArg (fun R => sortedFrom R (b.castLE hm)) hfun).trans key
  constructor
  · refine (congrArg x (halong _ _)).trans (congrArg (fun k => x (ix1 k)) (key' ⟨0 + b.val, by omega⟩ hpos _))
  · have two : ∀ j : (⟨1, ![n]⟩ : Shape).Idx, ∀ q : Fin n, q = b.castLE hm →
        BitVec.ofNat 32 ((j.along ⟨0, Nat.zero_lt_one⟩ (sortedFrom (fun k k' => FloatOps.cmpfTotal (F := Ideal) (φ := .f32) .gt
          (x (j.along ⟨0, Nat.zero_lt_one⟩ k)) (x (j.along ⟨0, Nat.zero_lt_one⟩ k')) == 1#1) q)) 0).val = BitVec.ofNat 32 (σ b).val := by
      intro j q hq
      refine congrArg (BitVec.ofNat 32) ?_
      refine (congrArg (fun i : (⟨1, ![n]⟩ : Shape).Idx => (i 0).val) (halong j _)).trans ?_
      exact congrArg Fin.val (key' q hq j)
    exact two _ ⟨0 + b.val, by omega⟩ hpos

/-! ## The selections -/

section
open Cert.KernelIdeal.Run Cert.KernelIdeal Cert.KernelIdeal.Body Cert.KernelIdeal.Read
open Idealize.SL.Sem

variable [Facts]
open Facts₀ Facts

/-- The place of a row's number. -/
def place8n (n : ℕ) (h : n < 1024) : S8x128.Idx := ix2 ⟨n / 128, by omega⟩ ⟨n % 128, by omega⟩

theorem pos8_place8n (n : ℕ) (h : n < 1024) : pos8 (place8n n h) = n := by
  rw [pos8_eq]; change n / 128 * 128 + n % 128 = n; omega

theorem pos8_inj {i i' : S8x128.Idx} (h : pos8 i = pos8 i') : i = i' := S8x128.rowMajor.injective (Fin.ext h)
theorem pos1_inj {l l' : S1x8x128.Idx} (h : pos1 l = pos1 l') : l = l' := S1x8x128.rowMajor.injective (Fin.ext h)

/-- Scores that are the entries of `x` in the first 1000 rows and columns, minus infinity elsewhere, with more than 128
    entries above minus infinity in the last row: the selections choose the entries the top-k of `x` takes. -/
theorem picks_topK (p : FVec Ideal S1024x1024 .f32) (x : (⟨1, ![1000000]⟩ : Shape).Idx → EReal)
    (hin : ∀ r c : Fin 1000, p (ix2 ⟨r.val, by omega⟩ ⟨c.val, by omega⟩) = x (ix1 ⟨1000 * r.val + c.val, by omega⟩))
    (hout : ∀ r c : Fin 1024, 1000 ≤ r.val ∨ 1000 ≤ c.val → p (ix2 r c) = ⊥)
    (hbig : ∀ c : Fin 200, ⊥ < p (ix2 ⟨999, by omega⟩ ⟨c.val, by omega⟩))
    (h : (⟨1, ![1000000]⟩ : Shape).Slices (fun _ => 0) ⟨1, ![128]⟩) :
    ∃ r c : Fin 128 → Fin 1000, ∀ b : Fin 128,
      (iter p 128).1.2.2.1 (ix2 0 b) = (Host.topK ⟨1, ![128]⟩ 0 (FloatOps.cmpfTotal (F := Ideal) (φ := .f32) .gt) x h).1 (ix1 b)
        ∧ (iter p 128).1.2.2.2.1 (ix2 0 b) = num (r b).val ∧ (iter p 128).1.2.2.2.2 (ix2 0 b) = num (c b).val
        ∧ (Host.topK ⟨1, ![128]⟩ 0 (FloatOps.cmpfTotal (F := Ideal) (φ := .f32) .gt) x h).2 (ix1 b)
          = BitVec.ofNat 32 (1000 * (r b).val + (c b).val) := by
  obtain ⟨si, sl, hs⟩ := picks p
  -- the value at a place is the score there
  have hcell := fun i l => cell_slabs p i l
  -- each selection's value is above minus infinity
  have habove : ∀ k < 128, ⊥ < cell (iter p k).2 (si k) (sl k) := by
    intro k hk
    obtain ⟨-, hc, hl, -⟩ := hs k hk.le
    have hex : ∃ c : Fin 200, ¬ ∃ j < k, place8n 999 (by omega) = si j ∧ place c.val (by omega) = sl j := by
      by_contra hno
      push Not at hno
      choose f hf using hno
      have hinj : Function.Injective (fun c : Fin 200 => (⟨f c, (hf c).1⟩ : Fin k)) := by
        intro c c' hcc
        have hcc' : f c = f c' := congrArg Fin.val hcc
        have := (hf c).2.2
        rw [hcc', ← (hf c').2.2] at this
        have := congrArg pos1 this
        rw [pos1_place, pos1_place] at this
        exact Fin.ext this
      have := Fintype.card_le_of_injective _ hinj
      simp at this
      omega
    obtain ⟨c, hcn⟩ := hex
    have h1 : cell (iter p k).2 (place8n 999 (by omega)) (place c.val (by omega)) = p (ix2 ⟨999, by omega⟩ ⟨c.val, by omega⟩) := by
      rw [hc, if_neg hcn, hcell]
      simp only [pos8_place8n, pos1_place]
    have h2 := hbig c
    rw [← h1] at h2
    rcases hl hk (place8n 999 (by omega)) (place c.val (by omega)) with h3 | ⟨h3, -⟩
    · exact h2.trans h3
    · rw [← h3]; exact h2
  have hfresh : ∀ k < 128, ¬ ∃ j < k, si k = si j ∧ sl k = sl j := by
    intro k hk hno
    obtain ⟨-, hc, -, -⟩ := hs k hk.le
    have := habove k hk
    rw [hc, if_pos hno] at this
    exact lt_irrefl _ this
  have hval : ∀ k < 128, cell (iter p k).2 (si k) (sl k) = cell (slabs p) (si k) (sl k) := by
    intro k hk
    obtain ⟨-, hc, -, -⟩ := hs k hk.le
    rw [hc, if_neg (hfresh k hk)]
  have hlt : ∀ k < 128, pos8 (si k) < 1000 ∧ pos1 (sl k) < 1000 := by
    intro k hk
    by_contra hno
    have hno' : 1000 ≤ pos8 (si k) ∨ 1000 ≤ pos1 (sl k) := by omega
    have := habove k hk
    rw [hval k hk, hcell, hout ⟨pos8 (si k), pos8_lt _⟩ ⟨pos1 (sl k), pos1_lt _⟩ hno'] at this
    exact lt_irrefl _ this
  let r : Fin 128 → Fin 1000 := fun b => ⟨pos8 (si b.val), (hlt b.val b.isLt).1⟩
  let c : Fin 128 → Fin 1000 := fun b => ⟨pos1 (sl b.val), (hlt b.val b.isLt).2⟩
  let σ : Fin 128 → Fin 1000000 := fun b => ⟨1000 * (r b).val + (c b).val, by omega⟩
  have hσ : ∀ b, x (ix1 (σ b)) = cell (iter p b.val).2 (si b.val) (sl b.val) := by
    intro b
    rw [hval b.val b.isLt, hcell]
    exact (hin (r b) (c b)).symm
  have hdiv : ∀ b, (σ b).val / 1000 = pos8 (si b.val) ∧ (σ b).val % 1000 = pos1 (sl b.val) := by
    intro b
    have h1 : (σ b).val = 1000 * pos8 (si b.val) + pos1 (sl b.val) := rfl
    have h2 := hlt b.val b.isLt
    omega
  have hinj : Function.Injective σ := by
    have hne : ∀ a b : Fin 128, a < b → σ a ≠ σ b := by
      intro a b hab he
      have h1 := hdiv a; have h2 := hdiv b
      rw [he] at h1
      exact hfresh b.val b.isLt ⟨a.val, hab, pos8_inj (h2.1.symm.trans h1.1), pos1_inj (h2.2.symm.trans h1.2)⟩
    intro a b he
    rcases lt_trichotomy a b with hab | hab | hab
    · exact absurd he (hne a b hab)
    · exact hab
    · exact absurd he.symm (hne b a hab)
  -- no place left is before the one chosen
  have hlead : ∀ (b : Fin 128) (q : Fin 1000000), (∀ j : Fin 128, j < b → σ j ≠ q) →
      ¬ Before (fun k => x (ix1 k)) q (σ b) := by
    intro b q hq hbef
    have hq1 : q.val / 1000 < 1000 := by omega
    have hq2 : q.val % 1000 < 1000 := by omega
    obtain ⟨-, hc, hl, -⟩ := hs b.val b.isLt.le
    have hxq : x (ix1 q) = cell (iter p b.val).2 (place8n (q.val / 1000) (by omega)) (place (q.val % 1000) (by omega)) := by
      rw [hc, if_neg, hcell]
      · have h1 := hin ⟨q.val / 1000, hq1⟩ ⟨q.val % 1000, hq2⟩
        have h2 : (⟨1000 * (q.val / 1000) + q.val % 1000, by omega⟩ : Fin 1000000) = q := Fin.ext (Nat.div_add_mod _ _)
        simp only [pos8_place8n, pos1_place]
        simp only [h2] at h1
        exact h1.symm
      · rintro ⟨j, hj, h1, h2⟩
        refine hq ⟨j, by omega⟩ hj (Fin.ext ?_)
        have h3 := congrArg pos8 h1; have h4 := congrArg pos1 h2
        rw [pos8_place8n] at h3; rw [pos1_place] at h4
        change 1000 * pos8 (si j) + pos1 (sl j) = q.val
        omega
    have h1 := hl b.isLt (place8n (q.val / 1000) (by omega)) (place (q.val % 1000) (by omega))
    rw [← hxq, ← hσ, pos8_place8n, pos1_place] at h1
    have h2 : (σ b).val = 1000 * pos8 (si b.val) + pos1 (sl b.val) := rfl
    have h3 := hlt b.val b.isLt
    rcases hbef with h | ⟨h, h'⟩
    · rcases h1 with h4 | ⟨h4, -⟩
      · exact lt_asymm h h4
      · exact absurd h4 h.ne'
    · rcases h1 with h4 | ⟨-, h4⟩
      · exact absurd h h4.ne
      · have h5 : q.val < (σ b).val := h'
        omega
  refine ⟨r, c, fun b => ?_⟩
  obtain ⟨-, -, -, hlane⟩ := hs 128 le_rfl
  obtain ⟨e1, e2, e3⟩ := hlane b b.isLt
  obtain ⟨t1, t2⟩ := topK_eq x (by omega) h σ hinj
    (fun i j hij => hlead i (σ j) fun a ha he => absurd (hinj he) (ha.trans hij).ne)
    (fun i q hq => hlead i q fun j _ => hq j) b
  exact ⟨(e1.trans (hσ b).symm).trans t1.symm, e2, e3, t2⟩

end

end Cert.KernelIdeal.TopK

end
-- ==== Proof.RefRead.lean ====
/- The reference's values: what each stretch of the reference leaves, as functions of the arguments. -/
module

public import proofs.«01_k».proof.Proof.Frames

@[expose] public section

set_option maxRecDepth 100000

noncomputable section

namespace Cert.ReferenceIdeal.Read

open Cert.ReferenceIdeal Cert.ReferenceIdeal.Gen Cert.ReferenceIdeal.Value Cert.ReferenceIdeal.Frames
open Idealize.ShloMosaic Idealize.SL.Sem Idealize.ShloMosaic.StableHlo

variable {F : FTy → Type} [FloatOps F]

/-! ## The values -/

/-- One factor of the scores. -/
def factor (x : FVec F S1000x151 .f32) (f : FVec F S1000x1024 .f32) (w : FVec F S150x256 .f32) (b : FVec F S256 .f32)
    (w' : FVec F S256x1024 .f32) (b' : FVec F S1024 .f32) : FVec F S1000x1024 .f32 :=
  mulf (addf (Host.dotGeneral dot_S1000x256_S256x1024_S1000x1024_1_0_0_1_n_n none
      (maximumf (addf (Host.dotGeneral dot_S1000x150_S150x256_S1000x256_1_0_0_1_n_n none
            (extractStridedSlice S1000x150 ![0, 0] x slices_S1000x151_S1000x150_0_0) w)
          (broadcastInDim S1000x256 ![0, 1] bcast_S1x256_S1000x256_0_1 (broadcastInDim S1x256 ![1] bcast_S256_S1x256_1 b)))
        (broadcastInDim S1000x256 ![] bcast_S_S1000x256 (constant S_ .f32 0x00000000#32))) w')
    (broadcastInDim S1000x1024 ![0, 1] bcast_S1x1024_S1000x1024_0_1 (broadcastInDim S1x1024 ![1] bcast_S1024_S1x1024_1 b'))) f

/-- The score matrix of two factors. -/
def scores (u v : FVec F S1000x1024 .f32) : FVec F S1000x1000 .f32 :=
  select (cmpi .eq (addi (iotaInDim S1000x1000 32 0) (broadcastInDim S1000x1000 ![] bcast_S_S1000x1000 (constantI S_ 32 0#32)))
      (iotaInDim S1000x1000 32 1))
    (broadcastInDim S1000x1000 ![] bcast_S_S1000x1000 (id (constant S_ .f32 0xFF800000#32)))
    (Host.divf (broadcastInDim S1000x1000 ![] bcast_S_S1000x1000 (constant S_ .f32 0x3F800000#32))
      (addf (broadcastInDim S1000x1000 ![] bcast_S_S1000x1000 (constant S_ .f32 0x3F800000#32))
        (Host.exp (Host.negf (select
          (select (cmpi .sge (addi (iotaInDim S1000x1000 32 0) (broadcastInDim S1000x1000 ![] bcast_S_S1000x1000 (constantI S_ 32 0#32)))
              (iotaInDim S1000x1000 32 1))
            (broadcastInDim S1000x1000 ![] bcast_S_S1000x1000 (constantI S_ 1 0#1))
            (broadcastInDim S1000x1000 ![] bcast_S_S1000x1000 (constantI S_ 1 1#1)))
          (Host.dotGeneral dot_S1000x1024_S1024x1000_S1000x1000_1_0_0_1_n_n none u
            (transpose S1024x1000 [1, 0] v transposes_S1000x1024_S1024x1000_1_0))
          (broadcastInDim S1000x1000 ![] bcast_S_S1000x1000 (id (constant S_ .f32 0x00000000#32))))))))

/-- The scores in one row. -/
def flat (p : FVec F S1000x1000 .f32) : FVec F S1000000 .f32 := shapeCast S1000000 p shapeCasts_S1000x1000_S1000000

/-- The quotient by 1000, rounded down. -/
def quot (w : IVec S128 32) (n : IVec S_ 32) : IVec S128 32 :=
  select (andi (cmpi .ne (signi w) (broadcastInDim S128 ![] bcast_S_S128 (signi (id n))))
      (cmpi .ne (Host.remsi w (broadcastInDim S128 ![] bcast_S_S128 (id n))) (broadcastInDim S128 ![] bcast_S_S128 (constantI S_ 32 0#32))))
    (subi (Host.divsi w (broadcastInDim S128 ![] bcast_S_S128 (id n))) (broadcastInDim S128 ![] bcast_S_S128 (constantI S_ 32 1#32)))
    (Host.divsi w (broadcastInDim S128 ![] bcast_S_S128 (id n)))

/-- The divisor of the remainder. -/
def divisor : IVec S_ 32 :=
  select (cmpi .eq (id (constantI S_ 32 1000#32)) (constantI S_ 32 0#32)) (constantI S_ 32 1#32) (id (constantI S_ 32 1000#32))

/-- The remainder by 1000, of the divisor's sign. -/
def rem (w : IVec S128 32) : IVec S128 32 :=
  select (andi (cmpi .ne (cmpi .slt (Host.remsi w (broadcastInDim S128 ![] bcast_S_S128 divisor)) (broadcastInDim S128 ![] bcast_S_S128 (constantI S_ 32 0#32)))
        (broadcastInDim S128 ![] bcast_S_S128 (cmpi .slt divisor (constantI S_ 32 0#32))))
      (cmpi .ne (Host.remsi w (broadcastInDim S128 ![] bcast_S_S128 divisor)) (broadcastInDim S128 ![] bcast_S_S128 (constantI S_ 32 0#32))))
    (addi (Host.remsi w (broadcastInDim S128 ![] bcast_S_S128 divisor)) (broadcastInDim S128 ![] bcast_S_S128 divisor))
    (Host.remsi w (broadcastInDim S128 ![] bcast_S_S128 divisor))

/-- The rows a vector of numbers names, a negative one counted from the end. -/
def rows (w : IVec S128 32) : IVec S128x1 32 :=
  broadcastInDim S128x1 ![0] bcast_S128_S128x1_0
    (select (cmpi .slt w (broadcastInDim S128 ![] bcast_S_S128 (constantI S_ 32 0#32)))
      (addi w (broadcastInDim S128 ![] bcast_S_S128 (constantI S_ 32 1000#32))) w)

/-- The boxes at those rows. -/
def boxesAt (b : FVec F S1000x4 .f32) (w : IVec S128 32) : FVec F S128x4 .f32 :=
  Host.gather gather_S1000x4_S128x1_S128x4_1_0_n_n_0_1_14 b (rows w)
/-- The features at those rows. -/
def featsAt (f : FVec F S1000x1024 .f32) (w : IVec S128 32) : FVec F S128x1024 .f32 :=
  Host.gather gather_S1000x1024_S128x1_S128x1024_1_0_n_n_0_1_11024 f (rows w)

/-- The least box holding both. -/
def union (s o : FVec F S128x4 .f32) : FVec F S128x4 .f32 :=
  concatenate S128x4 1 [⟨S128x2, minimumf (extractStridedSlice S128x2 ![0, 0] s slices_S128x4_S128x2_0_0) (extractStridedSlice S128x2 ![0, 0] o slices_S128x4_S128x2_0_0)⟩,
    ⟨S128x2, maximumf (extractStridedSlice S128x2 ![0, 2] s slices_S128x4_S128x2_0_2) (extractStridedSlice S128x2 ![0, 2] o slices_S128x4_S128x2_0_2)⟩] concatenates_S128x2_S128x2_S128x4_d1

/-- Its area. -/
def area (u : FVec F S128x4 .f32) : FVec F S128 .f32 :=
  mulf (subf (shapeCast S128 (extractStridedSlice S128x1 ![0, 2] u slices_S128x4_S128x1_0_2) shapeCasts_S128x1_S128)
      (shapeCast S128 (extractStridedSlice S128x1 ![0, 0] u slices_S128x4_S128x1_0_0) shapeCasts_S128x1_S128))
    (subf (shapeCast S128 (extractStridedSlice S128x1 ![0, 3] u slices_S128x4_S128x1_0_3) shapeCasts_S128x1_S128)
      (shapeCast S128 (extractStridedSlice S128x1 ![0, 1] u slices_S128x4_S128x1_0_1) shapeCasts_S128x1_S128))

/-- The sides two such boxes share. -/
def sides (u : FVec F S128x4 .f32) : FVec F S128x128x2 .f32 :=
  maximumf (broadcastInDim S128x128x2 ![] bcast_S_S128x128x2 (id (constant S_ .f32 0x00000000#32)))
    (subf (minimumf (broadcastInDim S128x128x2 ![0, 1, 2] bcast_S128x1x2_S128x128x2_0_1_2 (broadcastInDim S128x1x2 ![0, 2] bcast_S128x2_S128x1x2_0_2 (extractStridedSlice S128x2 ![0, 2] u slices_S128x4_S128x2_0_2)))
        (broadcastInDim S128x128x2 ![0, 1, 2] bcast_S1x128x2_S128x128x2_0_1_2 (broadcastInDim S1x128x2 ![1, 2] bcast_S128x2_S1x128x2_1_2 (extractStridedSlice S128x2 ![0, 2] u slices_S128x4_S128x2_0_2))))
      (maximumf (broadcastInDim S128x128x2 ![0, 1, 2] bcast_S128x1x2_S128x128x2_0_1_2 (broadcastInDim S128x1x2 ![0, 2] bcast_S128x2_S128x1x2_0_2 (extractStridedSlice S128x2 ![0, 0] u slices_S128x4_S128x2_0_0)))
        (broadcastInDim S128x128x2 ![0, 1, 2] bcast_S1x128x2_S128x128x2_0_1_2 (broadcastInDim S1x128x2 ![1, 2] bcast_S128x2_S1x128x2_1_2 (extractStridedSlice S128x2 ![0, 0] u slices_S128x4_S128x2_0_0)))))

/-- The area two such boxes share. -/
def inter (d : FVec F S128x128x2 .f32) : FVec F S128x128 .f32 :=
  mulf (shapeCast S128x128 (extractStridedSlice S128x128x1 ![0, 0, 0] d slices_S128x128x2_S128x128x1_0_0_0) shapeCasts_S128x128x1_S128x128)
    (shapeCast S128x128 (extractStridedSlice S128x128x1 ![0, 0, 1] d slices_S128x128x2_S128x128x1_0_0_1) shapeCasts_S128x128x1_S128x128)

/-- The overlaps. -/
def overlap (d : FVec F S128x128x2 .f32) (a : FVec F S128 .f32) : FVec F S128x128 .f32 :=
  Host.divf (inter d) (addf (subf (addf (broadcastInDim S128x128 ![0, 1] bcast_S128x1_S128x128_0_1 (broadcastInDim S128x1 ![0] bcast_S128_S128x1_0 a))
        (broadcastInDim S128x128 ![0, 1] bcast_S1x128_S128x128_0_1 (broadcastInDim S1x128 ![1] bcast_S128_S1x128_1 a))) (inter d))
      (broadcastInDim S128x128 ![] bcast_S_S128x128 (constant S_ .f32 0x3089705F#32)))

/-- The boxes returned. -/
def outBoxes (s o : FVec F S128x4 .f32) (k : FVec F S128 .f32) : FVec F S128x2x4 .f32 :=
  mulf (concatenate S128x2x4 1 [⟨S128x1x4, broadcastInDim S128x1x4 ![0, 2] bcast_S128x4_S128x1x4_0_2 s⟩,
      ⟨S128x1x4, broadcastInDim S128x1x4 ![0, 2] bcast_S128x4_S128x1x4_0_2 o⟩] concatenates_S128x1x4_S128x1x4_S128x2x4_d1)
    (broadcastInDim S128x2x4 ![0, 1, 2] bcast_S128x1x1_S128x2x4_0_1_2 (broadcastInDim S128x1x1 ![0] bcast_S128_S128x1x1_0 k))

/-- The features returned. -/
def outFeats (s o : FVec F S128x1024 .f32) (k : FVec F S128 .f32) : FVec F S128x3x1024 .f32 :=
  mulf (concatenate S128x3x1024 1 [⟨S128x1x1024, broadcastInDim S128x1x1024 ![0, 2] bcast_S128x1024_S128x1x1024_0_2 s⟩,
      ⟨S128x1x1024, broadcastInDim S128x1x1024 ![0, 2] bcast_S128x1024_S128x1x1024_0_2 o⟩,
      ⟨S128x1x1024, broadcastInDim S128x1x1024 ![0, 2] bcast_S128x1024_S128x1x1024_0_2
        (mulf (addf s o) (broadcastInDim S128x1024 ![] bcast_S_S128x1024 (constant S_ .f32 0x3F000000#32)))⟩] concatenates_S128x1x1024_S128x1x1024_S128x1x1024_S128x3x1024_d1)
    (broadcastInDim S128x3x1024 ![0, 1, 2] bcast_S128x1x1_S128x3x1024_0_1_2 (broadcastInDim S128x1x1 ![0] bcast_S128_S128x1x1_0 k))

/-! ## The stretches -/

variable (X : Valuation τ sig (Elt F))

abbrev head (X : Valuation τ sig (Elt F)) : Valuation τ sig (Elt F) :=
  afterL [hostOps0, hostOps0_1, hostOps0_2, hostOps0_3, hostOps0_4, hostOps0_5, hostOps0_6, hostOps0_7, hostOps0_8, hostOps0_9] X

set_option maxHeartbeats 4000000 in
theorem read_v37 : head X (Proc.devRef .tc main_v37)
    = scores (factor (X (Proc.devRef .tc main_arg1)) (X (Proc.devRef .tc main_arg2)) (X (Proc.devRef .tc main_arg3)) (X (Proc.devRef .tc main_arg4)) (X (Proc.devRef .tc main_arg5)) (X (Proc.devRef .tc main_arg6)))
      (factor (X (Proc.devRef .tc main_arg1)) (X (Proc.devRef .tc main_arg2)) (X (Proc.devRef .tc main_arg7)) (X (Proc.devRef .tc main_arg8)) (X (Proc.devRef .tc main_arg9)) (X (Proc.devRef .tc main_arg10))) := by
  simp only [head, afterL_cons, afterL_nil]
  after_reads_simp
  rfl

theorem read_values : after hostOps0_10 X (Proc.devRef .tc main_values)
    = (Host.topK S128 0 (FloatOps.cmpfTotal .gt) (flat (X (Proc.devRef .tc main_v37))) sliceFits_S1000000_S128).1 := by
  after_reads_simp
  rfl
theorem read_indices : after hostOps0_10 X (Proc.devRef .tc main_indices)
    = (Host.topK S128 0 (FloatOps.cmpfTotal .gt) (flat (X (Proc.devRef .tc main_v37))) sliceFits_S1000000_S128).2 := by
  after_reads_simp
  rfl
theorem read_c_4 : after hostOps0_10 X (Proc.devRef .tc main_c_4) = constantI S_ 32 1000#32 := by
  after_reads_simp

theorem read_v39 : after hostOps0_11 X (Proc.devRef .tc main_v39)
    = quot (X (Proc.devRef .tc main_indices)) (X (Proc.devRef .tc main_c_4)) := by
  after_reads_simp
  rfl
theorem read_v40 : after hostOps0_13 (after hostOps0_12 X) (Proc.devRef .tc main_v40) = rem (X (Proc.devRef .tc main_indices)) := by
  after_reads_simp
  rfl

set_option maxHeartbeats 4000000 in
theorem read_v47 : after hostOps0_14 X (Proc.devRef .tc main_v47)
    = boxesAt (X (Proc.devRef .tc main_arg0)) (X (Proc.devRef .tc main_v39)) := by
  after_reads_simp
  rfl
set_option maxHeartbeats 4000000 in
theorem read_v54 : after hostOps0_14 X (Proc.devRef .tc main_v54)
    = boxesAt (X (Proc.devRef .tc main_arg0)) (X (Proc.devRef .tc main_v40)) := by
  after_reads_simp
  rfl

set_option maxHeartbeats 4000000 in
theorem read_v72 : after hostOps0_14 X (Proc.devRef .tc main_v72)
    = area (union (boxesAt (X (Proc.devRef .tc main_arg0)) (X (Proc.devRef .tc main_v39))) (boxesAt (X (Proc.devRef .tc main_arg0)) (X (Proc.devRef .tc main_v40)))) := by
  after_reads_simp
  rfl
set_option maxHeartbeats 4000000 in
theorem read_v88 : after hostOps0_15 (after hostOps0_14 X) (Proc.devRef .tc main_v88)
    = sides (union (boxesAt (X (Proc.devRef .tc main_arg0)) (X (Proc.devRef .tc main_v39))) (boxesAt (X (Proc.devRef .tc main_arg0)) (X (Proc.devRef .tc main_v40)))) := by
  after_reads_simp
  rfl
theorem read_v104_0 : after hostOps0_16 X (Proc.devRef .tc main_v104_0)
    = overlap (X (Proc.devRef .tc main_v88)) (X (Proc.devRef .tc main_v72)) := by
  after_reads_simp
  rfl
theorem read_v104_2 : after hostOps0_16 X (Proc.devRef .tc main_v104_2) = constantI S_ 32 0#32 := by
  after_reads_simp
  rfl
theorem read_v104_3 : after hostOps0_16 X (Proc.devRef .tc main_v104_3)
    = broadcastInDim S128 ![] bcast_S_S128 (constant S_ .f32 0x3F800000#32) := by
  after_reads_simp
  rfl

set_option maxHeartbeats 4000000 in
theorem read_v110 : after hostOps0_17 X (Proc.devRef .tc main_v110)
    = outBoxes (X (Proc.devRef .tc main_v47)) (X (Proc.devRef .tc main_v54)) (X (Proc.devRef .tc main_v104_3)) := by
  after_reads_simp
  rfl
set_option maxHeartbeats 4000000 in
theorem read_v134 : after hostOps0_17 X (Proc.devRef .tc main_v134)
    = outFeats (featsAt (X (Proc.devRef .tc main_arg2)) (X (Proc.devRef .tc main_v39))) (featsAt (X (Proc.devRef .tc main_arg2)) (X (Proc.devRef .tc main_v40))) (X (Proc.devRef .tc main_v104_3)) := by
  after_reads_simp
  rfl
set_option maxHeartbeats 4000000 in
theorem read_v135 : after hostOps0_17 X (Proc.devRef .tc main_v135)
    = mulf (X (Proc.devRef .tc main_values)) (X (Proc.devRef .tc main_v104_3)) := by
  after_reads_simp

/-! ## One trip -/

/-- One trip's keeping: those after place `i`, kept, that overlap its box more than the threshold, are dropped. -/
def suppress (ov : FVec F S128x128 .f32) (i : IVec S_ 32) (kp : FVec F S128 .f32) : FVec F S128 .f32 :=
  select (andi (andi (cmpf .ogt (shapeCast S128 (Host.dynamicSlice S1x128 ov (fun k => (((![select (cmpi .slt i (constantI S_ 32 0#32)) (addi i (constantI S_ 32 128#32)) i,
        select (cmpi .slt (constantI S_ 32 0#32) (constantI S_ 32 0#32)) (addi (constantI S_ 32 0#32) (constantI S_ 32 128#32)) (constantI S_ 32 0#32)] : Fin 2 → IVec S_ 32)) k (Shape.Idx.first h_S_)).toInt) sliceFits_S128x128_S1x128) shapeCasts_S1x128_S128)
      (broadcastInDim S128 ![] bcast_S_S128 (constant S_ .f32 0x3F333333#32)))
      (cmpi .sgt (iotaInDim S128 32 0) (broadcastInDim S128 ![] bcast_S_S128 i)))
    (broadcastInDim S128 ![] bcast_S_S128 (cmpf .ogt (shapeCast S_ (Host.dynamicSlice S1 kp (fun k => (((![select (cmpi .slt i (constantI S_ 32 0#32)) (addi i (constantI S_ 32 128#32)) i] : Fin 1 → IVec S_ 32)) k (Shape.Idx.first h_S_)).toInt) sliceFits_S128_S1) shapeCasts_S1_S_)
      (constant S_ .f32 0x00000000#32))))
    (broadcastInDim S128 ![] bcast_S_S128 (id (constant S_ .f32 0x00000000#32))) kp

/-- What is kept after `k` trips. -/
def keeps (ov : FVec F S128x128 .f32) : ℕ → FVec F S128 .f32
  | 0 => broadcastInDim S128 ![] bcast_S_S128 (constant S_ .f32 0x3F800000#32)
  | k + 1 => suppress ov (constantI S_ 32 (BitVec.ofNat 32 k)) (keeps ov k)

theorem step_keep : step_main_v104_3 X
    = suppress (X (Proc.devRef .tc main_v104_0)) (X (Proc.devRef .tc main_v104_2)) (X (Proc.devRef .tc main_v104_3)) := rfl

/-! ## The loop's entry -/

/-- What the reference computes from its arguments. -/
structure Args (F : FTy → Type) where
  boxes : FVec F S1000x4 .f32
  x : FVec F S1000x151 .f32
  f : FVec F S1000x1024 .f32
  w1 : FVec F S150x256 .f32
  b1 : FVec F S256 .f32
  w2 : FVec F S256x1024 .f32
  b2 : FVec F S1024 .f32
  w3 : FVec F S150x256 .f32
  b3 : FVec F S256 .f32
  w4 : FVec F S256x1024 .f32
  b4 : FVec F S1024 .f32

variable (A : Args F)
/-- The scores. -/
def Args.p : FVec F S1000x1000 .f32 := scores (factor A.x A.f A.w1 A.b1 A.w2 A.b2) (factor A.x A.f A.w3 A.b3 A.w4 A.b4)
/-- The greatest scores. -/
def Args.vals : FVec F S128 .f32 := (Host.topK S128 0 (FloatOps.cmpfTotal .gt) (flat A.p) sliceFits_S1000000_S128).1
/-- Their places. -/
def Args.idx : IVec S128 32 := (Host.topK S128 0 (FloatOps.cmpfTotal .gt) (flat A.p) sliceFits_S1000000_S128).2
/-- Their rows. -/
def Args.q : IVec S128 32 := quot A.idx (constantI S_ 32 1000#32)
/-- Their columns. -/
def Args.r : IVec S128 32 := rem A.idx
/-- The union boxes. -/
def Args.u : FVec F S128x4 .f32 := union (boxesAt A.boxes A.q) (boxesAt A.boxes A.r)
/-- The overlaps. -/
def Args.ov : FVec F S128x128 .f32 := overlap (sides A.u) (area A.u)

variable (m : (ℓ : Loc nD τ sig) → Buf (Elt F) ℓ)

/-- The arguments on a device. -/
def argsOf (c : Dev nD) : Args F where
  boxes := m ((c.tc : Thread nD τ).loc main_arg0)
  x := m ((c.tc : Thread nD τ).loc main_arg1)
  f := m ((c.tc : Thread nD τ).loc main_arg2)
  w1 := m ((c.tc : Thread nD τ).loc main_arg3)
  b1 := m ((c.tc : Thread nD τ).loc main_arg4)
  w2 := m ((c.tc : Thread nD τ).loc main_arg5)
  b2 := m ((c.tc : Thread nD τ).loc main_arg6)
  w3 := m ((c.tc : Thread nD τ).loc main_arg7)
  b3 := m ((c.tc : Thread nD τ).loc main_arg8)
  w4 := m ((c.tc : Thread nD τ).loc main_arg9)
  b4 := m ((c.tc : Thread nD τ).loc main_arg10)

/-- The contents after the scores, after the places, after their rows and columns, and after the sides. -/
def C1 (c : Dev nD) : Valuation τ sig (Elt F) := head (launchContents m c)
def C2 (c : Dev nD) : Valuation τ sig (Elt F) := after hostOps0_10 (C1 m c)
def C3 (c : Dev nD) : Valuation τ sig (Elt F) := after hostOps0_11 (C2 m c)
def C4 (c : Dev nD) : Valuation τ sig (Elt F) := after hostOps0_13 (after hostOps0_12 (C3 m c))
def C5 (c : Dev nD) : Valuation τ sig (Elt F) := after hostOps0_14 (C4 m c)
def C6 (c : Dev nD) : Valuation τ sig (Elt F) := after hostOps0_15 (C5 m c)

theorem C1_v37 (c : Dev nD) : C1 m c (Proc.devRef .tc main_v37) = (argsOf m c).p := read_v37 _
theorem C2_values (c : Dev nD) : C2 m c (Proc.devRef .tc main_values) = (argsOf m c).vals := by
  unfold C2; rw [read_values, C1_v37]; rfl
theorem C2_indices (c : Dev nD) : C2 m c (Proc.devRef .tc main_indices) = (argsOf m c).idx := by
  unfold C2; rw [read_indices, C1_v37]; rfl
theorem C3_v39 (c : Dev nD) : C3 m c (Proc.devRef .tc main_v39) = (argsOf m c).q := by
  unfold C3; rw [read_v39, C2_indices]
  unfold C2; rw [read_c_4]; rfl
theorem C4_v40 (c : Dev nD) : C4 m c (Proc.devRef .tc main_v40) = (argsOf m c).r := by
  unfold C4; rw [read_v40]
  unfold C3; rw [after_of_writes_sub _ _ hostOps0_11_writes (by decide), C2_indices]; rfl
theorem C4_v39 (c : Dev nD) : C4 m c (Proc.devRef .tc main_v39) = (argsOf m c).q := by
  unfold C4
  rw [after_of_writes_sub _ _ hostOps0_13_writes (by decide), after_of_writes_sub _ _ hostOps0_12_writes (by decide), C3_v39]

/-- The loop's entry is the last stretch after the sides. -/
theorem entry_eq (c : Dev nD) : entryContents preI m c = after hostOps0_16 (C6 m c) := rfl

theorem C4_arg0 (c : Dev nD) : C4 m c (Proc.devRef .tc main_arg0) = (argsOf m c).boxes := by
  have h := entry_kept m c main_arg0 (args_not_written _ (by decide))
  rw [entry_eq, after_of_writes_sub _ _ hostOps0_16_writes (by decide)] at h
  unfold C6 C5 at h
  rw [after_of_writes_sub _ _ hostOps0_15_writes (by decide), after_of_writes_sub _ _ hostOps0_14_writes (by decide)] at h
  exact h

theorem C5_v47 (c : Dev nD) : C5 m c (Proc.devRef .tc main_v47) = boxesAt (argsOf m c).boxes (argsOf m c).q := by
  unfold C5; rw [read_v47, C4_arg0, C4_v39]
theorem C5_v54 (c : Dev nD) : C5 m c (Proc.devRef .tc main_v54) = boxesAt (argsOf m c).boxes (argsOf m c).r := by
  unfold C5; rw [read_v54, C4_arg0, C4_v40]
theorem C6_v72 (c : Dev nD) : C6 m c (Proc.devRef .tc main_v72) = area (argsOf m c).u := by
  unfold C6; rw [after_of_writes_sub _ _ hostOps0_15_writes (by decide)]
  unfold C5; rw [read_v72, C4_arg0, C4_v39, C4_v40]; rfl
theorem C6_v88 (c : Dev nD) : C6 m c (Proc.devRef .tc main_v88) = sides (argsOf m c).u := by
  unfold C6 C5; rw [read_v88, C4_arg0, C4_v39, C4_v40]; rfl

theorem entry_ov (c : Dev nD) : entryContents preI m c (Proc.devRef .tc main_v104_0) = (argsOf m c).ov := by
  rw [entry_eq, read_v104_0, C6_v72, C6_v88]; rfl
theorem entry_num (c : Dev nD) : entryContents preI m c (Proc.devRef .tc main_v104_2) = constantI S_ 32 0#32 := by
  rw [entry_eq, read_v104_2]
theorem entry_keep (c : Dev nD) : entryContents preI m c (Proc.devRef .tc main_v104_3) = keeps (argsOf m c).ov 0 := by
  rw [entry_eq, read_v104_3]; rfl

theorem entry_v47 (c : Dev nD) : entryContents preI m c (Proc.devRef .tc main_v47) = boxesAt (argsOf m c).boxes (argsOf m c).q := by
  rw [entry_eq, after_of_writes_sub _ _ hostOps0_16_writes (by decide)]
  unfold C6; rw [after_of_writes_sub _ _ hostOps0_15_writes (by decide), C5_v47]
theorem entry_v54 (c : Dev nD) : entryContents preI m c (Proc.devRef .tc main_v54) = boxesAt (argsOf m c).boxes (argsOf m c).r := by
  rw [entry_eq, after_of_writes_sub _ _ hostOps0_16_writes (by decide)]
  unfold C6; rw [after_of_writes_sub _ _ hostOps0_15_writes (by decide), C5_v54]
theorem entry_v39 (c : Dev nD) : entryContents preI m c (Proc.devRef .tc main_v39) = (argsOf m c).q := by
  rw [entry_eq, after_of_writes_sub _ _ hostOps0_16_writes (by decide)]
  unfold C6 C5
  rw [after_of_writes_sub _ _ hostOps0_15_writes (by decide), after_of_writes_sub _ _ hostOps0_14_writes (by decide), C4_v39]
theorem entry_v40 (c : Dev nD) : entryContents preI m c (Proc.devRef .tc main_v40) = (argsOf m c).r := by
  rw [entry_eq, after_of_writes_sub _ _ hostOps0_16_writes (by decide)]
  unfold C6 C5
  rw [after_of_writes_sub _ _ hostOps0_15_writes (by decide), after_of_writes_sub _ _ hostOps0_14_writes (by decide), C4_v40]
theorem entry_values (c : Dev nD) : entryContents preI m c (Proc.devRef .tc main_values) = (argsOf m c).vals := by
  rw [entry_eq, after_of_writes_sub _ _ hostOps0_16_writes (by decide)]
  unfold C6 C5 C4 C3
  rw [after_of_writes_sub _ _ hostOps0_15_writes (by decide), after_of_writes_sub _ _ hostOps0_14_writes (by decide),
    after_of_writes_sub _ _ hostOps0_13_writes (by decide), after_of_writes_sub _ _ hostOps0_12_writes (by decide),
    after_of_writes_sub _ _ hostOps0_11_writes (by decide), C2_values]

/-! ## The loop -/

/-- What the loop writes. -/
abbrev loop_W : List (Ref sig .tc) := while0Ops0_W ++ while0Ops0_1_W ++ while0Ops0_2_W ++ condOps_W

/-- A buffer the loop does not write leaves it as it entered. -/
theorem loop_kept (c : Dev nD) (b : Ref sig .tc) (hb : b ∉ loop_W) : ∀ k : ℕ,
    atK m k c (Proc.devRef .tc b) = entryContents preI m c (Proc.devRef .tc b)
  | 0 => rfl
  | k + 1 => by
    have ih := loop_kept c b hb k
    simp only [loop_W, List.mem_append, not_or] at hb
    rw [show atK m (k + 1) c = afterL bodyI (after condOps (atK m k c)) from rfl]
    simp only [afterL_cons, afterL_nil]
    rw [after_of_writes_sub _ _ while0Ops0_2_writes (by tauto), after_of_writes_sub _ _ while0Ops0_1_writes (by tauto),
      after_of_writes_sub _ _ while0Ops0_writes (by tauto), after_of_writes_sub _ _ condOps_writes (by tauto), ih]
    rfl

/-- Before trip `k` the loop carries the overlaps, the number `k` and what `k` trips keep. -/
theorem carried (c : Dev nD) : ∀ k : ℕ, atK m k c (Proc.devRef .tc main_v104_0) = (argsOf m c).ov
    ∧ atK m k c (Proc.devRef .tc main_v104_2) = constantI S_ 32 (BitVec.ofNat 32 k)
    ∧ atK m k c (Proc.devRef .tc main_v104_3) = keeps (argsOf m c).ov k
  | 0 => ⟨entry_ov m c, entry_num m c, entry_keep m c⟩
  | k + 1 => by
    obtain ⟨h0, h2, h3⟩ := carried c k
    have ha := trip_agree (atK m k c)
    rw [show atK m (k + 1) c = afterL bodyI (after condOps (atK m k c)) from rfl]
    refine ⟨(ha _ (by decide)).trans ((STEP_main_v104_0 _).trans h0), (ha _ (by decide)).trans ((STEP_main_v104_2 _).trans ?_),
      (ha _ (by decide)).trans ((STEP_main_v104_3 _).trans ?_)⟩
    · change addi (atK m k c (Proc.devRef .tc main_v104_2)) (constantI S_ 32 1#32) = _
      rw [h2]
      funext i
      change BitVec.ofNat 32 k + 1#32 = BitVec.ofNat 32 (k + 1)
      apply BitVec.eq_of_toNat_eq; simp
    · rw [step_keep, h0, h2, h3]; rfl

/-! ## The results -/

/-- The contents after the loop. -/
def C7 (c : Dev nD) : Valuation τ sig (Elt F) := after condOps (atK m 128 c)

theorem C7_kept (c : Dev nD) (b : Ref sig .tc) (hb : b ∉ loop_W) :
    C7 m c (Proc.devRef .tc b) = entryContents preI m c (Proc.devRef .tc b) := by
  unfold C7
  have h := hb
  simp only [loop_W, List.mem_append, not_or] at h
  rw [after_of_writes_sub _ _ condOps_writes (by tauto), loop_kept m c b hb]

theorem C7_keep (c : Dev nD) : C7 m c (Proc.devRef .tc main_v104_3) = keeps (argsOf m c).ov 128 := by
  unfold C7
  rw [after_of_writes_sub _ _ condOps_writes (by decide), (carried m c 128).2.2]

theorem final_eq (c : Dev nD) : finalContents condOps preI bodyI postI 128 m c = after hostOps0_17 (C7 m c) := rfl

/-- The first result: the chosen pairs' boxes. -/
theorem final_boxes (c : Dev nD) : finalContents condOps preI bodyI postI 128 m c (Proc.devRef .tc main_v110)
    = outBoxes (boxesAt (argsOf m c).boxes (argsOf m c).q) (boxesAt (argsOf m c).boxes (argsOf m c).r) (keeps (argsOf m c).ov 128) := by
  rw [final_eq, read_v110, C7_keep, C7_kept m c _ (by decide), C7_kept m c _ (by decide), entry_v47, entry_v54]

/-- The second result: their features. -/
theorem final_feats (c : Dev nD) : finalContents condOps preI bodyI postI 128 m c (Proc.devRef .tc main_v134)
    = outFeats (featsAt (argsOf m c).f (argsOf m c).q) (featsAt (argsOf m c).f (argsOf m c).r) (keeps (argsOf m c).ov 128) := by
  rw [final_eq, read_v134, C7_keep, C7_kept m c _ (by decide), C7_kept m c _ (by decide), C7_kept m c _ (by decide), entry_v39, entry_v40,
    entry_kept m c main_arg2 (args_not_written _ (by decide))]
  rfl

/-- The third result: their scores. -/
theorem final_vals (c : Dev nD) : finalContents condOps preI bodyI postI 128 m c (Proc.devRef .tc main_v135)
    = mulf (argsOf m c).vals (keeps (argsOf m c).ov 128) := by
  rw [final_eq, read_v135, C7_keep, C7_kept m c _ (by decide), entry_values]

end Cert.ReferenceIdeal.Read

end
-- ==== Proof.Scores.lean ====
/- The kernel's scores are the reference's inside the 1000 by 1000 block, and minus infinity outside it. -/
module

public import proofs.«01_k».proof.Proof.TopK
public import proofs.«01_k».proof.Proof.RefRead
public import Idealize.ShloMosaic.Lib.DynamicIndex

@[expose] public section

set_option maxRecDepth 16384

noncomputable section

namespace Cert.Alg

open Idealize.ShloMosaic
open KernelIdeal (S1024x150 S1024x1024 S150x256 S1x256 S256x1024 S1x1024)
open ReferenceIdeal (S1000x151 S1000x1024 S256 S1024)

variable [KernelIdeal.Facts]

/-! ## Words -/

/-- A choice by a truth value. -/
theorem select_bool {α : Type} (p : Bool) (a b : α) : Scalar.select (BitVec.ofBool p) a b = if p then a else b := by
  cases p <;> rfl
theorem and_bool (p q : Bool) : IntOp.andi (BitVec.ofBool p) (BitVec.ofBool q) = BitVec.ofBool (p && q) := by
  cases p <;> cases q <;> rfl

section
variable {a b : ℕ} (ha : a < 2 ^ 31) (hb : b < 2 ^ 31)
include ha hb

theorem slt_num : IntOp.cmpi .slt (BitVec.ofNat 32 a) (BitVec.ofNat 32 b) = BitVec.ofBool (decide (a < b)) := by
  simp only [IntOp.cmpi, BitVec.slt, toInt_ofNat_of_lt ha, toInt_ofNat_of_lt hb, Nat.cast_lt]
theorem sgt_num : IntOp.cmpi .sgt (BitVec.ofNat 32 a) (BitVec.ofNat 32 b) = BitVec.ofBool (decide (b < a)) := by
  simp only [IntOp.cmpi, BitVec.slt, toInt_ofNat_of_lt ha, toInt_ofNat_of_lt hb, Nat.cast_lt]
theorem sge_num : IntOp.cmpi .sge (BitVec.ofNat 32 a) (BitVec.ofNat 32 b) = BitVec.ofBool (decide (b ≤ a)) := by
  simp only [IntOp.cmpi, BitVec.sle, toInt_ofNat_of_lt ha, toInt_ofNat_of_lt hb, Nat.cast_le]
theorem eq_num : IntOp.cmpi .eq (BitVec.ofNat 32 a) (BitVec.ofNat 32 b) = BitVec.ofBool (decide (a = b)) := by
  have h : BitVec.ofNat 32 a = BitVec.ofNat 32 b ↔ a = b := by
    rw [← BitVec.toNat_inj, BitVec.toNat_ofNat, BitVec.toNat_ofNat, Nat.mod_eq_of_lt (by omega), Nat.mod_eq_of_lt (by omega)]
  simp only [IntOp.cmpi]
  congr 1
  rw [Bool.eq_iff_iff]; simp [h]
theorem ne_num : IntOp.cmpi .ne (BitVec.ofNat 32 a) (BitVec.ofNat 32 b) = BitVec.ofBool (decide (a ≠ b)) := by
  have h := eq_num ha hb
  by_cases e : a = b
  · subst e; simp [IntOp.cmpi]
  · have e' : BitVec.ofNat 32 a ≠ BitVec.ofNat 32 b := fun e' => by
      rw [← BitVec.toNat_inj, BitVec.toNat_ofNat, BitVec.toNat_ofNat, Nat.mod_eq_of_lt (by omega), Nat.mod_eq_of_lt (by omega)] at e'
      exact e e'
    simp only [IntOp.cmpi]
    rw [bne_iff_ne.2 e', decide_eq_true (by exact e)]
end

/-! ## The logistic -/

/-- The bits of a half. -/
theorem bits_half : Ideal.ofBits .f32 0x3F000000#32 = ((1 / 2 : ℝ) : EReal) := by
  simp [Ideal.ofBits, Ideal.ieee, -EReal.coe_mul]; norm_num

/-- The logistic at zero is a half. -/
theorem logistic_zero : Ideal.div 1 (1 + Ideal.exp (0 : EReal)) = ((1 / 2 : ℝ) : EReal) := by
  rw [show Ideal.exp (0 : EReal) = ((1 : ℝ) : EReal) from (show Ideal.exp ((0 : ℝ) : EReal) = ((Real.exp 0 : ℝ) : EReal) from rfl).trans (by rw [Real.exp_zero]), show (1 : EReal) = ((1 : ℝ) : EReal) from rfl, ← EReal.coe_add]
  unfold Ideal.div
  rw [if_neg (by norm_cast), ← EReal.coe_inv, ← EReal.coe_mul]
  norm_num

/-! ## The scores -/

/-- A row or column of the reference among the kernel's. -/
abbrev up (r : Fin 1000) : Fin 1024 := ⟨r.val, by omega⟩

/-- A factor of the scores, in the first 1000 rows. -/
theorem factor_eq (x : FVec Ideal S1024x150 .f32) (f : FVec Ideal S1024x1024 .f32) (w : FVec Ideal S150x256 .f32)
    (b : FVec Ideal S1x256 .f32) (w' : FVec Ideal S256x1024 .f32) (b' : FVec Ideal S1x1024 .f32)
    (y : FVec Ideal S1000x151 .f32) (g : FVec Ideal S1000x1024 .f32) (a : FVec Ideal S256 .f32) (a' : FVec Ideal S1024 .f32)
    (hx : ∀ (r : Fin 1000) (k : Fin 150), x (ix2 (up r) k) = y (ix2 r ⟨k.val, by omega⟩))
    (hf : ∀ (r : Fin 1000) (k : Fin 1024), f (ix2 (up r) k) = g (ix2 r k))
    (hb : ∀ k : Fin 256, b (ix2 0 k) = a (ix1 k)) (hb' : ∀ k : Fin 1024, b' (ix2 0 k) = a' (ix1 k))
    (r : Fin 1000) (j : Fin 1024) :
    KernelIdeal.Body.factor x f w b w' b' (ix2 (up r) j) = ReferenceIdeal.Read.factor y g w a w' a' (ix2 r j) := by
  pointwise [KernelIdeal.Body.factor, ReferenceIdeal.Read.factor]
  simp_rw [hx, hf, hb, hb']

/-- A score of the kernel. -/
theorem scores_kernel (u v : FVec Ideal S1024x1024 .f32) (r c : Fin 1024) :
    KernelIdeal.Body.scores u v (ix2 r c) = if r.val < 1000 ∧ c.val < 1000 ∧ r.val ≠ c.val then
      (if r.val < c.val then Ideal.div 1 (1 + Ideal.exp (-∑ x, u (ix2 r x) * v (ix2 c x))) else ((1 / 2 : ℝ) : EReal)) else ⊥ := by
  pointwise [KernelIdeal.Body.scores]
  have hr : r.val < 2 ^ 31 := by omega
  have hc : c.val < 2 ^ 31 := by omega
  rw [show (1000#32) = BitVec.ofNat 32 1000 from rfl, slt_num hr (by norm_num), slt_num hc (by norm_num), ne_num hr hc, sgt_num hc hr,
    and_bool, and_bool, select_bool, select_bool, bits_half, KernelIdeal.Read.bits_bot, sub_eq_add_neg, zero_add]
  simp only [Bool.and_eq_true, decide_eq_true_eq, and_assoc]

/-- A score of the reference. -/
theorem scores_ref (u v : FVec Ideal S1000x1024 .f32) (r c : Fin 1000) :
    ReferenceIdeal.Read.scores u v (ix2 r c) = if r.val = c.val then ⊥ else
      (if r.val < c.val then Ideal.div 1 (1 + Ideal.exp (-∑ x, u (ix2 r x) * v (ix2 c x))) else ((1 / 2 : ℝ) : EReal)) := by
  pointwise [ReferenceIdeal.Read.scores]
  have hr : r.val < 2 ^ 31 := by omega
  have hc : c.val < 2 ^ 31 := by omega
  rw [show IntOp.addi (BitVec.ofNat 32 r.val) 0#32 = BitVec.ofNat 32 r.val from BitVec.add_zero _, sge_num hr hc, eq_num hr hc, select_bool, select_bool]
  rw [show id (constant (F := Ideal) ReferenceIdeal.S_ .f32 0xFF800000#32) ix0 = ⊥ from KernelIdeal.Read.bits_bot,
    show id (constant (F := Ideal) ReferenceIdeal.S_ .f32 0#32) ix0 = 0 from KernelIdeal.Read.bits_zero]
  rcases lt_trichotomy r.val c.val with h | h | h
  · rw [decide_eq_false (show ¬ c.val ≤ r.val by omega), decide_eq_false (show ¬ r.val = c.val by omega), if_neg (show ¬ r.val = c.val by omega), if_pos h]
    rfl
  · rw [decide_eq_true h, if_pos h]; rfl
  · rw [decide_eq_true (show c.val ≤ r.val by omega), decide_eq_false (show ¬ r.val = c.val by omega), if_neg (show ¬ r.val = c.val by omega),
      if_neg (show ¬ r.val < c.val by omega)]
    exact (show _ = Ideal.div 1 (1 + Ideal.exp (-0)) from rfl).trans (by rw [neg_zero, logistic_zero])

/-- The scores agree on the reference's rows and columns. -/
theorem scores_eq (u v : FVec Ideal S1024x1024 .f32) (u' v' : FVec Ideal S1000x1024 .f32)
    (hu : ∀ (r : Fin 1000) (k : Fin 1024), u (ix2 (up r) k) = u' (ix2 r k))
    (hv : ∀ (r : Fin 1000) (k : Fin 1024), v (ix2 (up r) k) = v' (ix2 r k)) (r c : Fin 1000) :
    KernelIdeal.Body.scores u v (ix2 (up r) (up c)) = ReferenceIdeal.Read.scores u' v' (ix2 r c) := by
  rw [scores_kernel, scores_ref]
  simp_rw [hu, hv]
  have hr := r.isLt
  have hc := c.isLt
  by_cases h : r.val = c.val
  · simp [h]
  · simp [h, hr, hc]

/-- Outside them the kernel's scores are minus infinity. -/
theorem scores_out (u v : FVec Ideal S1024x1024 .f32) (r c : Fin 1024) (h : 1000 ≤ r.val ∨ 1000 ≤ c.val) :
    KernelIdeal.Body.scores u v (ix2 r c) = ⊥ := by
  rw [scores_kernel, if_neg (by omega)]

/-- In the last row the first 200 scores are a half. -/
theorem scores_big (u v : FVec Ideal S1024x1024 .f32) (c : Fin 200) :
    ⊥ < KernelIdeal.Body.scores u v (ix2 ⟨999, by omega⟩ ⟨c.val, by omega⟩) := by
  have hc := c.isLt
  rw [scores_kernel, if_pos (by simp; omega), if_neg (by simp; omega)]
  exact EReal.bot_lt_coe _

end Cert.Alg
-- ==== Proof.Pairs.lean ====
/- The chosen pairs: the reference's row and column words and its reading of rows by them; the kernel's reading of rows
   by a product with a matrix of ones and zeros; the two are equal. -/
module

public import proofs.«01_k».proof.Proof.Scores

@[expose] public section

set_option maxRecDepth 16384

noncomputable section

namespace Cert.Alg

open Idealize.ShloMosaic
open KernelIdeal (S1024x1024 S1x128 S128x1 S128x4 S1024x4 S128x128 S128x1024)
open ReferenceIdeal (S1000x4 S1000x1024 S128 S_)

/-! ## Words -/

theorem msb_num {n : ℕ} (h : n < 2 ^ 31) : (BitVec.ofNat 32 n).msb = false := by
  rw [BitVec.msb_eq_false_iff_two_mul_lt, BitVec.toNat_ofNat, Nat.mod_eq_of_lt (by omega)]; omega

theorem sdiv_num {n d : ℕ} (h : n < 2 ^ 31) (hd : d < 2 ^ 31) :
    (BitVec.ofNat 32 n).sdiv (BitVec.ofNat 32 d) = BitVec.ofNat 32 (n / d) := by
  rw [BitVec.sdiv_eq, msb_num h, msb_num hd]
  apply BitVec.eq_of_toNat_eq
  have := Nat.div_le_self n d
  simp only [BitVec.udiv_eq, BitVec.toNat_udiv, BitVec.toNat_ofNat]
  rw [Nat.mod_eq_of_lt (by omega), Nat.mod_eq_of_lt (by omega), Nat.mod_eq_of_lt (by omega)]

theorem srem_num {n d : ℕ} (h : n < 2 ^ 31) (hd : d < 2 ^ 31) :
    (BitVec.ofNat 32 n).srem (BitVec.ofNat 32 d) = BitVec.ofNat 32 (n % d) := by
  rw [BitVec.srem_eq, msb_num h, msb_num hd]
  apply BitVec.eq_of_toNat_eq
  have := Nat.mod_le n d
  have en : n % 2 ^ 32 = n := Nat.mod_eq_of_lt (by omega)
  have ed : d % 2 ^ 32 = d := Nat.mod_eq_of_lt (by omega)
  have er : n % d % 2 ^ 32 = n % d := Nat.mod_eq_of_lt (by omega)
  simp only [BitVec.umod_eq, BitVec.toNat_umod, BitVec.toNat_ofNat, en, ed, er]

/-- The host's quotient by 1000. -/
theorem hdiv_num {n : ℕ} (h : n < 2 ^ 31) : IntOp.divsi .host (BitVec.ofNat 32 n) 1000#32 = BitVec.ofNat 32 (n / 1000) := by
  unfold IntOp.divsi
  rw [if_neg, sdiv_num h (by norm_num)]
  simp [IntOp.SDivCorner]
/-- The host's remainder by 1000. -/
theorem hrem_num {n : ℕ} (h : n < 2 ^ 31) : IntOp.remsi .host (BitVec.ofNat 32 n) 1000#32 = BitVec.ofNat 32 (n % 1000) := by
  unfold IntOp.remsi
  rw [if_neg, srem_num h (by norm_num)]
  simp [IntOp.SDivCorner]

/-- The sign of a word. -/
def sign (x : BitVec 32) : BitVec 32 := if x = 0 then 0 else if x.msb then -1 else 1

/-- The quotient of a place. -/
theorem quot_num (w : IVec S128 32) (b : Fin 128) (n : ℕ) (hn : n < 1000000) (h : w (ix1 b) = BitVec.ofNat 32 n) :
    ReferenceIdeal.Read.quot w (constantI S_ 32 1000#32) (ix1 b) = BitVec.ofNat 32 (n / 1000) := by
  have e : ReferenceIdeal.Read.quot w (constantI S_ 32 1000#32) (ix1 b)
      = Scalar.select (IntOp.andi (IntOp.cmpi .ne (sign (w (ix1 b))) (sign 1000#32))
          (IntOp.cmpi .ne (IntOp.remsi .host (w (ix1 b)) 1000#32) 0#32))
        (IntOp.divsi .host (w (ix1 b)) 1000#32 - 1#32) (IntOp.divsi .host (w (ix1 b)) 1000#32) := rfl
  rw [e, h, hdiv_num (by omega), hrem_num (by omega), show sign 1000#32 = 1#32 from by decide]
  by_cases h0 : n = 0
  · subst h0; decide
  · have hs : sign (BitVec.ofNat 32 n) = 1#32 := by
      unfold sign
      rw [msb_num (by omega), if_neg]
      · rfl
      · intro h'
        have := congrArg BitVec.toNat h'
        rw [BitVec.toNat_ofNat, Nat.mod_eq_of_lt (by omega)] at this
        exact h0 this
    rw [hs, show IntOp.cmpi .ne (1#32) 1#32 = 0#1 from by decide]
    simp [IntOp.andi, Scalar.select]

/-- The remainder of a place. -/
theorem rem_num (w : IVec S128 32) (b : Fin 128) (n : ℕ) (hn : n < 1000000) (h : w (ix1 b) = BitVec.ofNat 32 n) :
    ReferenceIdeal.Read.rem w (ix1 b) = BitVec.ofNat 32 (n % 1000) := by
  have e : ReferenceIdeal.Read.rem w (ix1 b)
      = Scalar.select (IntOp.andi (IntOp.cmpi .ne (IntOp.cmpi .slt (IntOp.remsi .host (w (ix1 b)) 1000#32) 0#32) 0#1)
          (IntOp.cmpi .ne (IntOp.remsi .host (w (ix1 b)) 1000#32) 0#32))
        (IntOp.remsi .host (w (ix1 b)) 1000#32 + 1000#32) (IntOp.remsi .host (w (ix1 b)) 1000#32) := rfl
  have hm := Nat.mod_lt n (show 0 < 1000 by norm_num)
  rw [e, h, hrem_num (by omega), show (0#32) = BitVec.ofNat 32 0 from rfl, slt_num (by omega) (by norm_num), decide_eq_false (by omega)]
  rw [show IntOp.cmpi .ne (BitVec.ofBool false) 0#1 = 0#1 from rfl]
  simp [IntOp.andi, Scalar.select]

/-- The row a place in range names. -/
theorem rows_num (w : IVec S128 32) (b : Fin 128) (n : ℕ) (hn : n < 1000) (h : w (ix1 b) = BitVec.ofNat 32 n) :
    ReferenceIdeal.Read.rows w (ix2 b 0) = BitVec.ofNat 32 n := by
  have e : ReferenceIdeal.Read.rows w (ix2 b 0) = Scalar.select (IntOp.cmpi .slt (w (ix1 b)) 0#32) (w (ix1 b) + 1000#32) (w (ix1 b)) := by
    pointwise [ReferenceIdeal.Read.rows]
    rfl
  rw [e, h, show (0#32) = BitVec.ofNat 32 0 from rfl, slt_num (by omega) (by norm_num), decide_eq_false (by omega)]
  rfl

/-! ## Reading rows -/

/-- The dimension numbers of reading `B` rows of an `N` by `C` array. -/
abbrev rowDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Rows read by number. -/
theorem gather_rows {α : Type} {N C B : ℕ} (wf) (x : (⟨2, ![N, C]⟩ : Shape).Idx → α) (idx : IVec ⟨2, ![B, 1]⟩ 32)
    (b : Fin B) (j : Fin C) (n : Fin N) (hn : N < 2 ^ 31) (h : idx (ix2 b 0) = BitVec.ofNat 32 n.val) :
    Host.gather (rowDims N C B wf) x idx (ix2 b j) = x (ix2 n j) := by
  unfold Host.gather
  congr 1
  funext a
  refine Fin.ext ?_
  change (rowDims N C B wf).start (ix2 b j) idx a + (rowDims N C B wf).batchCoord (ix2 b j) a + (rowDims N C B wf).offCoord (ix2 b j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N C B wf).startIndexMap from List.mem_singleton.mpr rfl)]
    have hs : (rowDims N C B wf).siIdx (ix2 b j) ⟨List.idxOf (0 : Fin 2) (rowDims N C B wf).startIndexMap,
        List.idxOf_lt_length_iff.2 (List.mem_singleton.mpr rfl)⟩ = ix2 b 0 := by
      funext t; refine Fin.ext ?_
      fin_cases t <;> rfl
    have hlt := n.isLt
    change min (idx ((rowDims N C B wf).siIdx (ix2 b j) ⟨List.idxOf (0 : Fin 2) (rowDims N C B wf).startIndexMap, _⟩)).toInt.toNat (N - 1) + 0 + 0 = n.val
    rw [hs, h, toInt_ofNat_of_lt (by omega)]
    simp; omega
  · unfold GatherDims.start GatherDims.offCoord
    rw [dif_neg (show ¬ (1 : Fin 2) ∈ (rowDims N C B wf).startIndexMap by simp),
      dif_pos (show (1 : Fin 2) ∈ (rowDims N C B wf).sKept from (GatherDims.mem_sKept _ _).mpr ⟨by simp, by simp⟩)]
    exact (Nat.zero_add _)

/-- The reference's boxes at a row. -/
theorem boxesAt_ref (x : FVec Ideal S1000x4 .f32) (w : IVec S128 32) (b : Fin 128) (j : Fin 4) (n : Fin 1000) (h : w (ix1 b) = BitVec.ofNat 32 n.val) :
    ReferenceIdeal.Read.boxesAt x w (ix2 b j) = x (ix2 n j) :=
  gather_rows _ x _ b j n (by norm_num) (rows_num w b n.val n.isLt h)
/-- The reference's features at a row. -/
theorem featsAt_ref (x : FVec Ideal S1000x1024 .f32) (w : IVec S128 32) (b : Fin 128) (j : Fin 1024) (n : Fin 1000) (h : w (ix1 b) = BitVec.ofNat 32 n.val) :
    ReferenceIdeal.Read.featsAt x w (ix2 b j) = x (ix2 n j) :=
  gather_rows _ x _ b j n (by norm_num) (rows_num w b n.val n.isLt h)

variable [KernelIdeal.Facts]

/-- A row turned to a column. -/
theorem turn_apply (x : FVec Ideal S1x128 .f32) (b : Fin 128) (z : Fin 1) : KernelIdeal.Body.turn x (ix2 b z) = x (ix2 0 b) := by
  pointwise [KernelIdeal.Body.turn, KernelIdeal.Body.eye]
  rw [Finset.sum_eq_single b]
  · rw [eq_num (by omega) (by omega), select_bool]; simp
  · intro k _ hk
    rw [eq_num (by omega) (by omega), select_bool, if_neg (by simpa [Fin.val_inj] using Ne.symm hk)]
  · simp

/-- A column turned to a row. -/
theorem turnBack_apply (x : FVec Ideal S128x1 .f32) (z : Fin 1) (b : Fin 128) : KernelIdeal.Body.turnBack x (ix2 z b) = x (ix2 b 0) := by
  pointwise [KernelIdeal.Body.turnBack, KernelIdeal.Body.eye]
  rw [Finset.sum_eq_single b]
  · rw [eq_num (by omega) (by omega), select_bool]; simp
  · intro k _ hk
    rw [eq_num (by omega) (by omega), select_bool, if_neg (by simpa [Fin.val_inj] using hk)]
  · simp

/-- The matrix of ones. -/
theorem oneHot_apply (x : FVec Ideal S1x128 .f32) (b : Fin 128) (k : Fin 1024) (n : ℕ) (h : x (ix2 0 b) = KernelIdeal.Read.num n) :
    KernelIdeal.Body.oneHot x (ix2 b k) = if k.val = n then 1 else 0 := by
  have e := turn_apply x b 0
  pointwise [KernelIdeal.Body.oneHot]
  rw [e, h, show FloatOps.sitofp (F := Ideal) .f32 (BitVec.ofNat 32 k.val) = KernelIdeal.Read.num k.val by
    change (((BitVec.ofNat 32 k.val).toInt : ℝ) : EReal) = _
    rw [toInt_ofNat_of_lt (by omega)]; simp [KernelIdeal.Read.num]]
  by_cases hk : k.val = n
  · rw [decide_eq_true (KernelIdeal.Read.num_inj.2 hk), if_pos hk]
    change (((BitVec.setWidth 32 (BitVec.ofBool true)).toInt : ℝ) : EReal) = _
    rw [show (BitVec.setWidth 32 (BitVec.ofBool true)).toInt = 1 from by decide]; simp
  · rw [decide_eq_false (fun h => hk (KernelIdeal.Read.num_inj.1 h)), if_neg hk]
    change (((BitVec.setWidth 32 (BitVec.ofBool false)).toInt : ℝ) : EReal) = _
    rw [show (BitVec.setWidth 32 (BitVec.ofBool false)).toInt = 0 from by decide]; simp

/-- The kernel's boxes at a row. -/
theorem boxesAt_kernel (x : FVec Ideal S1x128 .f32) (y : FVec Ideal S1024x4 .f32) (b : Fin 128) (j : Fin 4) (n : Fin 1024) (h : x (ix2 0 b) = KernelIdeal.Read.num n.val) :
    KernelIdeal.Body.boxesAt x y (ix2 b j) = y (ix2 n j) := by
  pointwise [KernelIdeal.Body.boxesAt]
  rw [Finset.sum_eq_single n]
  · rw [oneHot_apply x b n n.val h, if_pos rfl, one_mul]
  · intro k _ hk
    rw [oneHot_apply x b k n.val h, if_neg (by simpa [Fin.val_inj] using hk), zero_mul]
  · simp

/-- The kernel's features at a row. -/
theorem featsAt_kernel (x : FVec Ideal S1x128 .f32) (y : FVec Ideal S1024x1024 .f32) (b : Fin 128) (j : Fin 1024) (n : Fin 1024) (h : x (ix2 0 b) = KernelIdeal.Read.num n.val) :
    KernelIdeal.Body.featsAt x y (ix2 b j) = y (ix2 n j) := by
  pointwise [KernelIdeal.Body.featsAt]
  rw [Finset.sum_eq_single n]
  · rw [oneHot_apply x b n n.val h, if_pos rfl, one_mul]
  · intro k _ hk
    rw [oneHot_apply x b k n.val h, if_neg (by simpa [Fin.val_inj] using hk), zero_mul]
  · simp

end Cert.Alg
-- ==== Proof.Nms.lean ====
/- The suppression: the kernel's overlaps and what it keeps are the reference's. -/
module

public import proofs.«01_k».proof.Proof.Pairs

@[expose] public section

set_option maxRecDepth 16384

noncomputable section

namespace Cert.Alg

open Idealize.ShloMosaic
open KernelIdeal (S1024x1024 S1x128 S128x1 S128x4 S1024x4 S128x128 S128x1024)
open ReferenceIdeal (S128 S_)

variable [KernelIdeal.Facts]

/-! ## The overlaps -/

variable (s o : FVec Ideal S128x4 .f32) (i j : Fin 128) (z : Fin 1)

theorem union_0 : ReferenceIdeal.Read.union s o (ix2 i 0) = min (s (ix2 i 0)) (o (ix2 i 0)) := by
  pointwise [ReferenceIdeal.Read.union]
theorem union_1 : ReferenceIdeal.Read.union s o (ix2 i 1) = min (s (ix2 i 1)) (o (ix2 i 1)) := by
  pointwise [ReferenceIdeal.Read.union]
theorem union_2 : ReferenceIdeal.Read.union s o (ix2 i 2) = max (s (ix2 i 2)) (o (ix2 i 2)) := by
  pointwise [ReferenceIdeal.Read.union]
theorem union_3 : ReferenceIdeal.Read.union s o (ix2 i 3) = max (s (ix2 i 3)) (o (ix2 i 3)) := by
  pointwise [ReferenceIdeal.Read.union]

theorem lo0_eq : KernelIdeal.Body.lo0 s o (ix2 i z) = ReferenceIdeal.Read.union s o (ix2 i 0) := by
  rw [union_0]; pointwise [KernelIdeal.Body.lo0]
theorem lo1_eq : KernelIdeal.Body.lo1 s o (ix2 i z) = ReferenceIdeal.Read.union s o (ix2 i 1) := by
  rw [union_1]; pointwise [KernelIdeal.Body.lo1]
theorem hi0_eq : KernelIdeal.Body.hi0 s o (ix2 i z) = ReferenceIdeal.Read.union s o (ix2 i 2) := by
  rw [union_2]; pointwise [KernelIdeal.Body.hi0]
theorem hi1_eq : KernelIdeal.Body.hi1 s o (ix2 i z) = ReferenceIdeal.Read.union s o (ix2 i 3) := by
  rw [union_3]; pointwise [KernelIdeal.Body.hi1]

/-- The areas. -/
theorem area_eq : KernelIdeal.Body.area s o (ix2 i z) = ReferenceIdeal.Read.area (ReferenceIdeal.Read.union s o) (ix1 i) := by
  have h : ∀ u : FVec Ideal S128x4 .f32, ReferenceIdeal.Read.area u (ix1 i) = (u (ix2 i 2) - u (ix2 i 0)) * (u (ix2 i 3) - u (ix2 i 1)) := fun u => by
    pointwise [ReferenceIdeal.Read.area]
  rw [h]
  have h' : KernelIdeal.Body.area s o (ix2 i z) = (KernelIdeal.Body.hi0 s o (ix2 i z) - KernelIdeal.Body.lo0 s o (ix2 i z)) * (KernelIdeal.Body.hi1 s o (ix2 i z) - KernelIdeal.Body.lo1 s o (ix2 i z)) := rfl
  rw [h', lo0_eq, lo1_eq, hi0_eq, hi1_eq]

theorem down_apply (x : FVec Ideal S128x1 .f32) : KernelIdeal.Body.down x (ix2 i j) = x (ix2 i 0) := by
  pointwise [KernelIdeal.Body.down]
theorem across_apply (x : FVec Ideal S128x1 .f32) : KernelIdeal.Body.across x (ix2 i j) = x (ix2 j 0) := by
  pointwise [KernelIdeal.Body.across]
  rw [turnBack_apply]
theorem clip_apply (x : FVec Ideal S128x128 .f32) : KernelIdeal.Body.clip x (ix2 i j) = max (x (ix2 i j)) 0 := by
  pointwise [KernelIdeal.Body.clip]

/-- The common areas. -/
theorem inter_eq : KernelIdeal.Body.inter s o (ix2 i j)
    = ReferenceIdeal.Read.inter (ReferenceIdeal.Read.sides (ReferenceIdeal.Read.union s o)) (ix2 i j) := by
  have h : ∀ u : FVec Ideal S128x4 .f32, ReferenceIdeal.Read.inter (ReferenceIdeal.Read.sides u) (ix2 i j)
      = max 0 (min (u (ix2 i 2)) (u (ix2 j 2)) - max (u (ix2 i 0)) (u (ix2 j 0))) * max 0 (min (u (ix2 i 3)) (u (ix2 j 3)) - max (u (ix2 i 1)) (u (ix2 j 1))) := fun u => by
    pointwise [ReferenceIdeal.Read.inter, ReferenceIdeal.Read.sides]
    rw [show id (constant (F := Ideal) ReferenceIdeal.S_ .f32 0#32) ix0 = 0 from KernelIdeal.Read.bits_zero]
  rw [h]
  pointwise [KernelIdeal.Body.inter]
  rw [clip_apply, clip_apply, max_comm, max_comm (_ : EReal) 0]
  pointwise []
  simp only [down_apply, across_apply, lo0_eq, lo1_eq, hi0_eq, hi1_eq]

/-- Which overlap more than the threshold. -/
theorem over_eq : KernelIdeal.Body.over s o (ix2 i j)
    = BitVec.ofBool (decide (Ideal.ofBits .f32 0x3F333333#32 < ReferenceIdeal.Read.overlap (ReferenceIdeal.Read.sides (ReferenceIdeal.Read.union s o)) (ReferenceIdeal.Read.area (ReferenceIdeal.Read.union s o)) (ix2 i j))) := by
  have h : ReferenceIdeal.Read.overlap (ReferenceIdeal.Read.sides (ReferenceIdeal.Read.union s o)) (ReferenceIdeal.Read.area (ReferenceIdeal.Read.union s o)) (ix2 i j)
      = divf (KernelIdeal.Body.inter s o) (addf (subf (addf (KernelIdeal.Body.down (KernelIdeal.Body.area s o)) (KernelIdeal.Body.across (KernelIdeal.Body.area s o))) (KernelIdeal.Body.inter s o))
      (broadcast S128x128 (Scalar.ofBits .f32 0x3089705F#32))) (ix2 i j) := by
    pointwise [ReferenceIdeal.Read.overlap]
    rw [inter_eq, down_apply, across_apply, area_eq, area_eq]
  rw [h]
  rfl

/-! ## What is kept -/

variable (w : IVec S128x128 1) (ov : FVec Ideal S128x128 .f32)

/-- A bit is zero or one. -/
theorem bit (b : BitVec 1) : b = 0#1 ∨ b = 1#1 := by revert b; decide

theorem slices_place (k : ℕ) (hk : k < 128) : S128.Slices ![k] ReferenceIdeal.S1 := by
  refine ⟨rfl, fun a => ?_⟩
  fin_cases a
  change k + 1 ≤ 128; omega

/-- One suppression of the kernel. -/
theorem suppress_kernel (k : ℕ) (hk : k < 128) (kp : FVec Ideal S1x128 .f32) : KernelIdeal.Body.suppress w k hk kp (ix2 0 j)
    = if w (ix2 ⟨k, hk⟩ j) = 1#1 ∧ k < j.val ∧ 0 < kp (ix2 0 ⟨k, hk⟩) then 0 else kp (ix2 0 j) := by
  pointwise [KernelIdeal.Body.suppress]
  have hj := j.isLt
  rcases bit (w (ix2 ⟨k, hk⟩ j)) with hw | hw
  · rw [hw, sgt_num (by omega) (by omega), show (0#1) = BitVec.ofBool false from rfl, and_bool, and_bool, select_bool]
    simp
  · rw [hw, sgt_num (by omega) (by omega), show (1#1) = BitVec.ofBool true from rfl, and_bool, and_bool, select_bool]
    simp

/-- One suppression of the reference. -/
theorem suppress_ref (k : ℕ) (hk : k < 128) (kp : FVec Ideal S128 .f32) :
    ReferenceIdeal.Read.suppress ov (constantI S_ 32 (BitVec.ofNat 32 k)) kp (ix1 j)
    = if Ideal.ofBits .f32 0x3F333333#32 < ov (ix2 ⟨k, hk⟩ j) ∧ k < j.val ∧ 0 < kp (ix1 ⟨k, hk⟩) then 0 else kp (ix1 j) := by
  have hj := j.isLt
  unfold ReferenceIdeal.Read.suppress
  rw [Host.dynamicSlice_eq_extractStridedSlice ReferenceIdeal.S1x128 ov _ ![k, 0] _ (KernelIdeal.Body.slices_row k hk) (fun a => by
      fin_cases a
      · exact toInt_wrap_ofNat k (by omega)
      · exact toInt_wrap_ofNat (s := S_) (d := constantI S_ 32 128#32) (i := Shape.Idx.first ReferenceIdeal.Gen.h_S_) 0 (by norm_num)),
    Host.dynamicSlice_eq_extractStridedSlice ReferenceIdeal.S1 kp _ ![k] _ (slices_place k hk) (fun a => by
      fin_cases a
      exact toInt_wrap_ofNat k (by omega))]
  pointwise []
  rw [sgt_num (by omega) (by omega), and_bool, and_bool, select_bool,
    show id (constant (F := Ideal) ReferenceIdeal.S_ .f32 0#32) ix0 = 0 from KernelIdeal.Read.bits_zero]
  simp only [Bool.and_eq_true, decide_eq_true_eq, and_assoc]

/-- What is kept after `n` suppressions. -/
theorem kept_eq (hw : ∀ i j : Fin 128, w (ix2 i j) = BitVec.ofBool (decide (Ideal.ofBits .f32 0x3F333333#32 < ov (ix2 i j)))) :
    ∀ (n : ℕ) (hn : n ≤ 128) (j : Fin 128), KernelIdeal.Body.kept (F := Ideal) w n hn (ix2 0 j) = ReferenceIdeal.Read.keeps ov n (ix1 j)
  | 0, _, j => rfl
  | n + 1, hn, j => by
    have ih := kept_eq hw n (by omega)
    rw [KernelIdeal.Body.kept, ReferenceIdeal.Read.keeps, suppress_kernel, suppress_ref (hk := by omega), ih, ih, hw]
    have hb : ∀ p : Bool, BitVec.ofBool p = 1#1 ↔ p = true := by decide
    simp only [hb, decide_eq_true_eq]

/-- What is kept in the end. -/
theorem keep_eq (j : Fin 128) : KernelIdeal.Body.keep (F := Ideal) (KernelIdeal.Body.over s o) (ix2 0 j)
    = ReferenceIdeal.Read.keeps (ReferenceIdeal.Read.overlap (ReferenceIdeal.Read.sides (ReferenceIdeal.Read.union s o)) (ReferenceIdeal.Read.area (ReferenceIdeal.Read.union s o))) 128 (ix1 j) :=
  kept_eq _ _ (fun i j => over_eq s o i j) 128 (le_refl _) j

end Cert.Alg
-- ==== Proof.Outputs.lean ====
/- What the kernel's run leaves in its three results, from what the body leaves in its six. -/
module

public import proofs.«01_k».proof.Proof.Launch
public import proofs.«01_k».proof.Proof.Scores
public import Idealize.ShloMosaic.Lib.Pipeline.ValueKit

@[expose] public section

set_option maxRecDepth 16384

noncomputable section

namespace Cert.KernelIdeal.Outputs

open Cert.KernelIdeal Cert.KernelIdeal.Gen
open Idealize.ShloMosaic Idealize.ShloMosaic.TcCoe Idealize.ShloMosaic.StableHlo Idealize.ShloMosaic.Tactic

variable (X : Valuation τ sig (Elt Ideal))

/-! ## The host's last lines -/

/-- Two blocks of boxes put side by side. -/
def twoBoxes (a b : FVec Ideal S128x4 .f32) : FVec Ideal S128x2x4 .f32 :=
  concatenate S128x2x4 1 [⟨S128x1x4, broadcastInDim S128x1x4 ![0, 2] bcast_S128x4_S128x1x4_0_2 a⟩,
    ⟨S128x1x4, broadcastInDim S128x1x4 ![0, 2] bcast_S128x4_S128x1x4_0_2 b⟩] concatenates_S128x1x4_S128x1x4_S128x2x4_d1
/-- Three blocks of features put side by side. -/
def threeFeats (a b d : FVec Ideal S128x1024 .f32) : FVec Ideal S128x3x1024 .f32 :=
  concatenate S128x3x1024 1 [⟨S128x1x1024, broadcastInDim S128x1x1024 ![0, 2] bcast_S128x1024_S128x1x1024_0_2 a⟩,
    ⟨S128x1x1024, broadcastInDim S128x1x1024 ![0, 2] bcast_S128x1024_S128x1x1024_0_2 b⟩,
    ⟨S128x1x1024, broadcastInDim S128x1x1024 ![0, 2] bcast_S128x1024_S128x1x1024_0_2 d⟩] concatenates_S128x1x1024_S128x1x1024_S128x1x1024_S128x3x1024_d1

theorem read_v17 : after hostOps1 X (Proc.devRef .tc main_v17)
    = twoBoxes (X (Proc.devRef .tc main_v14_0)) (X (Proc.devRef .tc main_v14_1)) := by
  after_reads_simp
  rfl
theorem read_v21 : after hostOps1 X (Proc.devRef .tc main_v21)
    = threeFeats (X (Proc.devRef .tc main_v14_2)) (X (Proc.devRef .tc main_v14_3)) (X (Proc.devRef .tc main_v14_4)) := by
  after_reads_simp
  rfl
theorem read_v22 : after hostOps1 X (Proc.devRef .tc main_v22)
    = shapeCast S128 (X (Proc.devRef .tc main_v14_5)) shapeCasts_S1x128_S128 := by
  after_reads_simp
  rfl

/-! ## The arrays the launch leaves -/

variable (m : (ℓ : Loc nD τ sig) → Buf (Elt Ideal) ℓ)

theorem arrs_inj : Function.Injective (Pipeline.arrRef (cfgs 0).spec) := by decide +kernel

/-- What the launch leaves. -/
@[irreducible] def exit (c : Dev nD) : Valuation τ sig (Elt Ideal) :=
  Pipeline.withArrays (cfgs 0).spec c (V0 m c) fun w => (Launch.dats m 0 c).arrAt w (cfgs 0).N

theorem tail_eq (c : Dev nD) (b : Ref sig .tc) :
    Pipeline.afterTail₀ cfgs (Launch.dats m) 0 (V0 m) [hostOps1] c b = after hostOps1 (exit m c) (Proc.devRef .tc b) := by
  unfold Pipeline.afterTail₀ exit
  simp only [List.flatten_cons, List.flatten_nil, List.append_nil]

theorem exit_arr (c : Dev nD) (w : Fin 17) :
    exit m c (Proc.devRef .tc (Pipeline.arrRef (cfgs 0).spec w)) = (Launch.dats m 0 c).arrAt w cfg0.N := by
  unfold exit
  exact Pipeline.withArrays_arr (cfgs 0).spec arrs_inj c _ _ w

variable (c : Dev nD) (dat : Pipeline.Dat τ (Elt Ideal) Unit ℕ (UR sig nD τ) ℕ cfg0 c)

theorem left_0 (G : FVec Ideal S128x4 .f32) (hX : X (Proc.devRef .tc (Pipeline.arrRef (cfgs 0).spec 11)) = dat.arrAt 11 cfg0.N)
    (h : dat.after 11 t0_0 = G) : X (Proc.devRef .tc main_v14_0) = G :=
  hX.trans (dat.arrAt_eq_of_after_last 11 t0_0 (by decide +kernel) _ fun j => by rw [h]; rfl)
theorem left_1 (G : FVec Ideal S128x4 .f32) (hX : X (Proc.devRef .tc (Pipeline.arrRef (cfgs 0).spec 12)) = dat.arrAt 12 cfg0.N)
    (h : dat.after 12 t0_0 = G) : X (Proc.devRef .tc main_v14_1) = G :=
  hX.trans (dat.arrAt_eq_of_after_last 12 t0_0 (by decide +kernel) _ fun j => by rw [h]; rfl)
theorem left_2 (G : FVec Ideal S128x1024 .f32) (hX : X (Proc.devRef .tc (Pipeline.arrRef (cfgs 0).spec 13)) = dat.arrAt 13 cfg0.N)
    (h : dat.after 13 t0_0 = G) : X (Proc.devRef .tc main_v14_2) = G :=
  hX.trans (dat.arrAt_eq_of_after_last 13 t0_0 (by decide +kernel) _ fun j => by rw [h]; rfl)
theorem left_3 (G : FVec Ideal S128x1024 .f32) (hX : X (Proc.devRef .tc (Pipeline.arrRef (cfgs 0).spec 14)) = dat.arrAt 14 cfg0.N)
    (h : dat.after 14 t0_0 = G) : X (Proc.devRef .tc main_v14_3) = G :=
  hX.trans (dat.arrAt_eq_of_after_last 14 t0_0 (by decide +kernel) _ fun j => by rw [h]; rfl)
theorem left_4 (G : FVec Ideal S128x1024 .f32) (hX : X (Proc.devRef .tc (Pipeline.arrRef (cfgs 0).spec 15)) = dat.arrAt 15 cfg0.N)
    (h : dat.after 15 t0_0 = G) : X (Proc.devRef .tc main_v14_4) = G :=
  hX.trans (dat.arrAt_eq_of_after_last 15 t0_0 (by decide +kernel) _ fun j => by rw [h]; rfl)
theorem left_5 (G : FVec Ideal S1x128 .f32) (hX : X (Proc.devRef .tc (Pipeline.arrRef (cfgs 0).spec 16)) = dat.arrAt 16 cfg0.N)
    (h : dat.after 16 t0_0 = G) : X (Proc.devRef .tc main_v14_5) = G :=
  hX.trans (dat.arrAt_eq_of_after_last 16 t0_0 (by decide +kernel) _ fun j => by rw [h]; rfl)

theorem exit_v14_0 : exit m c (Proc.devRef .tc main_v14_0) = (Launch.ins m c).o11 :=
  left_0 (exit m c) c (Launch.dats m 0 c) _ (exit_arr m c 11) (by dsimp only [Launch.dats])
theorem exit_v14_1 : exit m c (Proc.devRef .tc main_v14_1) = (Launch.ins m c).o12 :=
  left_1 (exit m c) c (Launch.dats m 0 c) _ (exit_arr m c 12) (by dsimp only [Launch.dats])
theorem exit_v14_2 : exit m c (Proc.devRef .tc main_v14_2) = (Launch.ins m c).o13 :=
  left_2 (exit m c) c (Launch.dats m 0 c) _ (exit_arr m c 13) (by dsimp only [Launch.dats])
theorem exit_v14_3 : exit m c (Proc.devRef .tc main_v14_3) = (Launch.ins m c).o14 :=
  left_3 (exit m c) c (Launch.dats m 0 c) _ (exit_arr m c 14) (by dsimp only [Launch.dats])
theorem exit_v14_4 : exit m c (Proc.devRef .tc main_v14_4) = (Launch.ins m c).o15 :=
  left_4 (exit m c) c (Launch.dats m 0 c) _ (exit_arr m c 15) (by dsimp only [Launch.dats])
theorem exit_v14_5 : exit m c (Proc.devRef .tc main_v14_5) = (Launch.ins m c).o16 :=
  left_5 (exit m c) c (Launch.dats m 0 c) _ (exit_arr m c 16) (by dsimp only [Launch.dats])

/-! ## The results -/

theorem final_v17 : Pipeline.afterTail₀ cfgs (Launch.dats m) 0 (V0 m) [hostOps1] c main_v17
    = twoBoxes (Launch.ins m c).o11 (Launch.ins m c).o12 := by
  rw [tail_eq, read_v17, exit_v14_0, exit_v14_1]
theorem final_v21 : Pipeline.afterTail₀ cfgs (Launch.dats m) 0 (V0 m) [hostOps1] c main_v21
    = threeFeats (Launch.ins m c).o13 (Launch.ins m c).o14 (Launch.ins m c).o15 := by
  rw [tail_eq, read_v21, exit_v14_2, exit_v14_3, exit_v14_4]
theorem final_v22 : Pipeline.afterTail₀ cfgs (Launch.dats m) 0 (V0 m) [hostOps1] c main_v22
    = shapeCast S128 (Launch.ins m c).o16 shapeCasts_S1x128_S128 := by
  rw [tail_eq, read_v22, exit_v14_5]

end Cert.KernelIdeal.Outputs

end
-- ==== Proof.Values.lean ====
/- The kernel's three results are the reference's, for inputs that agree with the arguments in their own rows. -/
module

public import proofs.«01_k».proof.Proof.Nms
public import proofs.«01_k».proof.Proof.Outputs

@[expose] public section

set_option maxRecDepth 16384

noncomputable section

namespace Cert.Alg

open Idealize.ShloMosaic
open KernelIdeal (S1024x1024 S1x128 S128x1 S128x4 S1024x4 S128x128 S128x1024 S128x2x4 S128x3x1024)
open ReferenceIdeal (S1000x4 S1000x1024 S128 S_)

/-- The body's inputs hold the reference's arguments in the first 1000 rows. -/
structure Agree (I : KernelIdeal.Run.Ins Ideal) (A : ReferenceIdeal.Read.Args Ideal) : Prop where
  x : ∀ (r : Fin 1000) (k : Fin 150), I.x (ix2 (up r) k) = A.x (ix2 r ⟨k.val, by omega⟩)
  f : ∀ (r : Fin 1000) (k : Fin 1024), I.f (ix2 (up r) k) = A.f (ix2 r k)
  b : ∀ (r : Fin 1000) (k : Fin 4), I.b (ix2 (up r) k) = A.boxes (ix2 r k)
  w1 : I.w1 = A.w1
  b1 : ∀ k : Fin 256, I.b1 (ix2 0 k) = A.b1 (ix1 k)
  w2 : I.w2 = A.w2
  b2 : ∀ k : Fin 1024, I.b2 (ix2 0 k) = A.b2 (ix1 k)
  w3 : I.w3 = A.w3
  b3 : ∀ k : Fin 256, I.b3 (ix2 0 k) = A.b3 (ix1 k)
  w4 : I.w4 = A.w4
  b4 : ∀ k : Fin 1024, I.b4 (ix2 0 k) = A.b4 (ix1 k)

variable {I : KernelIdeal.Run.Ins Ideal} {A : ReferenceIdeal.Read.Args Ideal}

/-- The scores agree. -/
theorem Agree.p (h : Agree I A) (r c : Fin 1000) : I.p (ix2 (up r) (up c)) = A.p (ix2 r c) := by
  unfold KernelIdeal.Run.Ins.p ReferenceIdeal.Read.Args.p
  refine scores_eq _ _ _ _ (fun r k => ?_) (fun r k => ?_) r c
  · rw [h.w1, h.w2]
    exact factor_eq _ _ _ _ _ _ _ _ _ _ h.x h.f h.b1 h.b2 r k
  · rw [h.w3, h.w4]
    exact factor_eq _ _ _ _ _ _ _ _ _ _ h.x h.f h.b3 h.b4 r k

/-- A matrix of scores read as one list. -/
theorem flat_apply (p : FVec Ideal ReferenceIdeal.S1000x1000 .f32) (r c : Fin 1000) :
    ReferenceIdeal.Read.flat p (ix1 ⟨1000 * r.val + c.val, by omega⟩) = p (ix2 r c) := by
  pointwise [ReferenceIdeal.Read.flat]

theorem p_out (I : KernelIdeal.Run.Ins Ideal) (r c : Fin 1024) (h : 1000 ≤ r.val ∨ 1000 ≤ c.val) : I.p (ix2 r c) = ⊥ := by
  unfold KernelIdeal.Run.Ins.p
  exact scores_out _ _ r c h
theorem p_big (I : KernelIdeal.Run.Ins Ideal) (c : Fin 200) : ⊥ < I.p (ix2 ⟨999, by omega⟩ ⟨c.val, by omega⟩) := by
  unfold KernelIdeal.Run.Ins.p
  exact scores_big _ _ c
theorem Agree.flat (h : Agree I A) (r c : Fin 1000) :
    I.p (ix2 ⟨r.val, by omega⟩ ⟨c.val, by omega⟩) = ReferenceIdeal.Read.flat A.p (ix1 ⟨1000 * r.val + c.val, by omega⟩) :=
  (h.p r c).trans (flat_apply A.p r c).symm

/-- The chosen places, read off the list of the scores. -/
theorem Agree.top (h : Agree I A) (S : KernelIdeal.Body.Carry Ideal) (v : FVec Ideal S128 .f32) (w : IVec S128 32)
    (hS : S = (KernelIdeal.Run.iter I.p 128).1)
    (hv : v = (Host.topK S128 0 (FloatOps.cmpfTotal (F := Ideal) (φ := .f32) .gt) (ReferenceIdeal.Read.flat A.p) ReferenceIdeal.Facts₀.sliceFits_S1000000_S128).1)
    (hw : w = (Host.topK S128 0 (FloatOps.cmpfTotal (F := Ideal) (φ := .f32) .gt) (ReferenceIdeal.Read.flat A.p) ReferenceIdeal.Facts₀.sliceFits_S1000000_S128).2) :
    ∃ r c : Fin 128 → Fin 1000, ∀ b : Fin 128,
      S.2.2.1 (ix2 0 b) = v (ix1 b) ∧ S.2.2.2.1 (ix2 0 b) = KernelIdeal.Read.num (r b).val
        ∧ S.2.2.2.2 (ix2 0 b) = KernelIdeal.Read.num (c b).val ∧ w (ix1 b) = BitVec.ofNat 32 (1000 * (r b).val + (c b).val) := by
  rw [hS, hv, hw]
  exact KernelIdeal.TopK.picks_topK I.p (ReferenceIdeal.Read.flat A.p) h.flat (p_out I) (p_big I) ReferenceIdeal.Facts₀.sliceFits_S1000000_S128

theorem quot_pair (w : IVec S128 32) (b : Fin 128) (r c : Fin 1000) (h : w (ix1 b) = BitVec.ofNat 32 (1000 * r.val + c.val)) :
    ReferenceIdeal.Read.quot w (constantI S_ 32 1000#32) (ix1 b) = BitVec.ofNat 32 r.val := by
  have e := quot_num w b (1000 * r.val + c.val) (by omega) h
  rw [show (1000 * r.val + c.val) / 1000 = r.val by omega] at e
  exact e
theorem rem_pair (w : IVec S128 32) (b : Fin 128) (r c : Fin 1000) (h : w (ix1 b) = BitVec.ofNat 32 (1000 * r.val + c.val)) :
    ReferenceIdeal.Read.rem w (ix1 b) = BitVec.ofNat 32 c.val := by
  have e := rem_num w b (1000 * r.val + c.val) (by omega) h
  rw [show (1000 * r.val + c.val) % 1000 = c.val by omega] at e
  exact e

theorem st_eq (I : KernelIdeal.Run.Ins Ideal) : I.st = (KernelIdeal.Run.iter I.p 128).1 := by
  rw [KernelIdeal.Run.Ins.st]
theorem vals_eq (A : ReferenceIdeal.Read.Args Ideal) : A.vals = (Host.topK S128 0 (FloatOps.cmpfTotal (F := Ideal) (φ := .f32) .gt) (ReferenceIdeal.Read.flat A.p) ReferenceIdeal.Facts₀.sliceFits_S1000000_S128).1 := by
  rw [ReferenceIdeal.Read.Args.vals]
theorem idx_eq (A : ReferenceIdeal.Read.Args Ideal) : A.idx = (Host.topK S128 0 (FloatOps.cmpfTotal (F := Ideal) (φ := .f32) .gt) (ReferenceIdeal.Read.flat A.p) ReferenceIdeal.Facts₀.sliceFits_S1000000_S128).2 := by
  rw [ReferenceIdeal.Read.Args.idx]

/-- The two programs choose the same pairs: the kernel names their rows and columns by numbers, the reference by words. -/
theorem pairs_of (S : KernelIdeal.Body.Carry Ideal) (v : FVec Ideal S128 .f32) (w : IVec S128 32)
    (h : ∃ r c : Fin 128 → Fin 1000, ∀ b : Fin 128,
      S.2.2.1 (ix2 0 b) = v (ix1 b) ∧ S.2.2.2.1 (ix2 0 b) = KernelIdeal.Read.num (r b).val
        ∧ S.2.2.2.2 (ix2 0 b) = KernelIdeal.Read.num (c b).val ∧ w (ix1 b) = BitVec.ofNat 32 (1000 * (r b).val + (c b).val)) :
    ∃ r c : Fin 128 → Fin 1000, ∀ b : Fin 128,
      S.2.2.1 (ix2 0 b) = v (ix1 b) ∧ S.2.2.2.1 (ix2 0 b) = KernelIdeal.Read.num (r b).val
        ∧ S.2.2.2.2 (ix2 0 b) = KernelIdeal.Read.num (c b).val
        ∧ ReferenceIdeal.Read.quot w (constantI S_ 32 1000#32) (ix1 b) = BitVec.ofNat 32 (r b).val
        ∧ ReferenceIdeal.Read.rem w (ix1 b) = BitVec.ofNat 32 (c b).val := by
  obtain ⟨r, c, hrc⟩ := h
  exact ⟨r, c, fun b => ⟨(hrc b).1, (hrc b).2.1, (hrc b).2.2.1, quot_pair _ b _ _ (hrc b).2.2.2, rem_pair _ b _ _ (hrc b).2.2.2⟩⟩

/-- The same of the inputs and the arguments. -/
theorem Agree.picks (h : Agree I A) : ∃ r c : Fin 128 → Fin 1000, ∀ b : Fin 128,
    I.st.2.2.1 (ix2 0 b) = A.vals (ix1 b)
      ∧ I.st.2.2.2.1 (ix2 0 b) = KernelIdeal.Read.num (r b).val ∧ I.st.2.2.2.2 (ix2 0 b) = KernelIdeal.Read.num (c b).val
      ∧ A.q (ix1 b) = BitVec.ofNat 32 (r b).val ∧ A.r (ix1 b) = BitVec.ofNat 32 (c b).val := by
  unfold ReferenceIdeal.Read.Args.q ReferenceIdeal.Read.Args.r
  exact pairs_of I.st A.vals A.idx (h.top I.st A.vals A.idx (st_eq I) (vals_eq A) (idx_eq A))

theorem ext2 {a b : ℕ} {α : Type} (x y : (⟨2, ![a, b]⟩ : Shape).Idx → α) (h : ∀ i j, x (ix2 i j) = y (ix2 i j)) : x = y := by
  funext z
  have e : z = ix2 (z 0) (z 1) := by
    funext t
    match t with
    | ⟨0, _⟩ => rfl
    | ⟨1, _⟩ => rfl
  rw [e]
  exact h _ _
theorem ext3 {a b d : ℕ} {α : Type} (x y : (⟨3, ![a, b, d]⟩ : Shape).Idx → α) (h : ∀ i j k, x (ix3 i j k) = y (ix3 i j k)) : x = y := by
  funext z
  have e : z = ix3 (z 0) (z 1) (z 2) := by
    funext t
    match t with
    | ⟨0, _⟩ => rfl
    | ⟨1, _⟩ => rfl
    | ⟨2, _⟩ => rfl
  rw [e]
  exact h _ _ _
theorem ext1 {a : ℕ} {α : Type} (x y : (⟨1, ![a]⟩ : Shape).Idx → α) (h : ∀ i, x (ix1 i) = y (ix1 i)) : x = y := by
  funext z
  have e : z = ix1 (z 0) := by
    funext t
    match t with
    | ⟨0, _⟩ => rfl
  rw [e]
  exact h _

/-- The boxes and features read at the chosen rows and columns agree, and so do what is kept and the values. -/
theorem Agree.reads (h : Agree I A) :
    I.sb = ReferenceIdeal.Read.boxesAt A.boxes A.q ∧ I.ob = ReferenceIdeal.Read.boxesAt A.boxes A.r
      ∧ KernelIdeal.Body.featsAt I.st.2.2.2.1 I.f = ReferenceIdeal.Read.featsAt A.f A.q
      ∧ KernelIdeal.Body.featsAt I.st.2.2.2.2 I.f = ReferenceIdeal.Read.featsAt A.f A.r
      ∧ ∀ b : Fin 128, I.st.2.2.1 (ix2 0 b) = A.vals (ix1 b) := by
  obtain ⟨r, c, hrc⟩ := h.picks
  refine ⟨ext2 _ _ fun b j => ?_, ext2 _ _ fun b j => ?_, ext2 _ _ fun b j => ?_, ext2 _ _ fun b j => ?_, fun b => (hrc b).1⟩
  · exact (boxesAt_kernel _ _ b j (up (r b)) (hrc b).2.1).trans ((h.b (r b) j).trans (boxesAt_ref _ _ b j (r b) (hrc b).2.2.2.1).symm)
  · exact (boxesAt_kernel _ _ b j (up (c b)) (hrc b).2.2.1).trans ((h.b (c b) j).trans (boxesAt_ref _ _ b j (c b) (hrc b).2.2.2.2).symm)
  · exact (featsAt_kernel _ _ b j (up (r b)) (hrc b).2.1).trans ((h.f (r b) j).trans (featsAt_ref _ _ b j (r b) (hrc b).2.2.2.1).symm)
  · exact (featsAt_kernel _ _ b j (up (c b)) (hrc b).2.2.1).trans ((h.f (c b) j).trans (featsAt_ref _ _ b j (c b) (hrc b).2.2.2.2).symm)

theorem Agree.kp (h : Agree I A) (j : Fin 128) : I.kp (ix2 0 j) = ReferenceIdeal.Read.keeps A.ov 128 (ix1 j) := by
  obtain ⟨hs, ho, -⟩ := h.reads
  unfold KernelIdeal.Run.Ins.kp ReferenceIdeal.Read.Args.ov ReferenceIdeal.Read.Args.u
  rw [hs, ho]
  exact keep_eq _ _ j

variable (kp : FVec Ideal S1x128 .f32) (k : FVec Ideal S128 .f32) (hk : ∀ j : Fin 128, kp (ix2 0 j) = k (ix1 j))
include hk

theorem outBoxes_eq (s o : FVec Ideal S128x4 .f32) :
    KernelIdeal.Outputs.twoBoxes (KernelIdeal.Body.outBox s kp) (KernelIdeal.Body.outBox o kp) = ReferenceIdeal.Read.outBoxes s o k := by
  refine ext3 _ _ fun b i j => ?_
  match i with
  | ⟨0, _⟩ =>
    pointwise [KernelIdeal.Outputs.twoBoxes, KernelIdeal.Body.outBox, ReferenceIdeal.Read.outBoxes]
    rw [turn_apply, hk]
  | ⟨1, _⟩ =>
    pointwise [KernelIdeal.Outputs.twoBoxes, KernelIdeal.Body.outBox, ReferenceIdeal.Read.outBoxes]
    rw [turn_apply, hk]

theorem outFeats_eq (s o : FVec Ideal S128x1024 .f32) :
    KernelIdeal.Outputs.threeFeats (KernelIdeal.Body.outFeat s kp) (KernelIdeal.Body.outFeat o kp) (KernelIdeal.Body.outFeat (KernelIdeal.Body.mean s o) kp)
      = ReferenceIdeal.Read.outFeats s o k := by
  refine ext3 _ _ fun b i j => ?_
  match i with
  | ⟨0, _⟩ =>
    pointwise [KernelIdeal.Outputs.threeFeats, KernelIdeal.Body.outFeat, ReferenceIdeal.Read.outFeats]
    rw [turn_apply, hk]
  | ⟨1, _⟩ =>
    pointwise [KernelIdeal.Outputs.threeFeats, KernelIdeal.Body.outFeat, ReferenceIdeal.Read.outFeats]
    rw [turn_apply, hk]
  | ⟨2, _⟩ =>
    pointwise [KernelIdeal.Outputs.threeFeats, KernelIdeal.Body.outFeat, KernelIdeal.Body.mean, ReferenceIdeal.Read.outFeats]
    rw [turn_apply, hk]

theorem outVals_eq (v : FVec Ideal S1x128 .f32) (w : FVec Ideal S128 .f32) (hv : ∀ j : Fin 128, v (ix2 0 j) = w (ix1 j)) :
    shapeCast S128 (mulf v kp) KernelIdeal.Facts₀.shapeCasts_S1x128_S128 = mulf w k := by
  refine ext1 _ _ fun b => ?_
  pointwise []
  rw [hv, hk]

omit hk

/-! ## The results -/

/-- The boxes returned are the same. -/
theorem Agree.boxes (h : Agree I A) : KernelIdeal.Outputs.twoBoxes I.o11 I.o12
    = ReferenceIdeal.Read.outBoxes (ReferenceIdeal.Read.boxesAt A.boxes A.q) (ReferenceIdeal.Read.boxesAt A.boxes A.r) (ReferenceIdeal.Read.keeps A.ov 128) := by
  obtain ⟨hs, ho, -⟩ := h.reads
  unfold KernelIdeal.Run.Ins.o11 KernelIdeal.Run.Ins.o12
  rw [hs, ho]
  exact outBoxes_eq _ _ h.kp _ _
/-- The features returned are the same. -/
theorem Agree.feats (h : Agree I A) : KernelIdeal.Outputs.threeFeats I.o13 I.o14 I.o15
    = ReferenceIdeal.Read.outFeats (ReferenceIdeal.Read.featsAt A.f A.q) (ReferenceIdeal.Read.featsAt A.f A.r) (ReferenceIdeal.Read.keeps A.ov 128) := by
  obtain ⟨-, -, hs, ho, -⟩ := h.reads
  unfold KernelIdeal.Run.Ins.o13 KernelIdeal.Run.Ins.o14 KernelIdeal.Run.Ins.o15
  rw [hs, ho]
  exact outFeats_eq _ _ h.kp _ _
/-- The scores returned are the same. -/
theorem Agree.scores (h : Agree I A) : shapeCast S128 I.o16 KernelIdeal.Facts₀.shapeCasts_S1x128_S128
    = mulf A.vals (ReferenceIdeal.Read.keeps A.ov 128) := by
  obtain ⟨-, -, -, -, hv⟩ := h.reads
  unfold KernelIdeal.Run.Ins.o16
  exact outVals_eq _ _ h.kp _ _ hv

end Cert.Alg

end
-- ==== Proof.Inputs.lean ====
/- What the kernel's body is handed: the launch's arrays are the arguments padded to whole tiles, and at an argument's own
   rows a padded array holds the argument. -/
module

public import proofs.«01_k».proof.Proof.Launch
public import proofs.«01_k».proof.Proof.Scores
public import Idealize.ShloMosaic.Lib.Pipeline.ValueKit

@[expose] public section

set_option maxRecDepth 16384

noncomputable section

namespace Cert.Alg

open Idealize.ShloMosaic

/-! ## A block laid into an array -/

/-- Writes at places all different: after them a place in the list holds its own value, and one outside what it held. -/
theorem foldl_write {α β γ : Type} [DecidableEq β] (g : α → β) (hg : Function.Injective g) (v : α → γ) (L : List α)
    (r : β → γ) (n : α) :
    (L.foldl (fun r n => fun i => if i = g n then v n else r i) r) (g n) = v n ∨
      ((L.foldl (fun r n => fun i => if i = g n then v n else r i) r) (g n) = r (g n) ∧ n ∉ L) := by
  induction L generalizing r with
  | nil => exact Or.inr ⟨rfl, List.not_mem_nil⟩
  | cons k L ih =>
    rw [List.foldl_cons]
    rcases ih (fun i => if i = g k then v k else r i) with h | ⟨h, hn⟩
    · exact Or.inl h
    · by_cases e : n = k
      · subst e
        exact Or.inl (h.trans (if_pos rfl))
      · exact Or.inr ⟨h.trans (if_neg fun h' => e (hg h')), fun h' => (List.mem_cons.1 h').elim e hn⟩

/-- An array with a block written over it, each entry of the block landing at a place of its own, holds the block's entry
    there. -/
theorem scatter_at {s si u : Shape} {α : Type} {w : Nat} (d : ScatterDims s si u) (x : s.Idx → α) (idx : IVec si w)
    (y : u.Idx → α) (g : u.Idx → s.Idx) (hg : Function.Injective g) (h : ∀ j, d.resultIdx? j idx = some (g j)) (j : u.Idx) :
    Host.scatter d (fun _ b => b) x idx y (g j) = y j := by
  unfold Host.scatter
  simp only [h]
  have := foldl_write (fun n => g (u.rowMajor.symm n)) (fun a b e => u.rowMajor.symm.injective (hg e))
    (fun n => y (u.rowMajor.symm n)) (List.finRange u.numel) x (u.rowMajor j)
  simp only [Equiv.symm_apply_apply] at this
  rcases this with h | ⟨_, h⟩
  · exact h
  · exact absurd (List.mem_finRange _) h

/-- A block of a thousand rows laid at the top of an array of 1024 rows: one of its rows is found there. -/
theorem scatter_rows {n : ℕ} {w : Nat}
    (hwf : ScatterDims.WF ⟨2, ![1024, n]⟩ ⟨1, ![1]⟩ ⟨2, ![1000, n]⟩ [0, 1] [] [0] 0)
    (x : FVec Ideal ⟨2, ![1024, n]⟩ .f32) (idx : IVec ⟨1, ![1]⟩ w) (hidx : ∀ i, (idx i).toInt = 0)
    (y : FVec Ideal ⟨2, ![1000, n]⟩ .f32) (r : Fin 1000) (k : Fin n) :
    Host.scatter (ScatterDims.mk [0, 1] [] [0] 0 hwf) (fun _ b => b) x idx y (ix2 (up r) k) = y (ix2 r k) := by
  have hs : ∀ (j : (⟨2, ![1000, n]⟩ : Shape).Idx) a, (ScatterDims.mk [0, 1] [] [0] 0 hwf).start j idx a = 0 := by
    intro j a
    unfold ScatterDims.start
    split
    · exact hidx _
    · rfl
  have h := scatter_at (ScatterDims.mk [0, 1] [] [0] 0 hwf) x idx y (fun j => ix2 (up (j 0)) (j 1))
    (fun a b e => by
      have e0 := congrArg Fin.val (congrFun e 0)
      have e1 := congrFun e 1
      funext t
      match t with
      | ⟨0, _⟩ => exact Fin.ext e0
      | ⟨1, _⟩ => exact e1)
    (fun j => by
      have hw : ∀ a, (ScatterDims.mk [0, 1] [] [0] 0 hwf).window j a = ((ix2 (up (j 0)) (j 1) : (⟨2, ![1024, n]⟩ : Shape).Idx) a).val := by
        intro a
        match a with
        | ⟨0, _⟩ => rfl
        | ⟨1, _⟩ => rfl
      unfold ScatterDims.resultIdx?
      rw [dif_pos fun a => by rw [hs, hw]; exact ⟨by omega, by have := ((ix2 (up (j 0)) (j 1) : (⟨2, ![1024, n]⟩ : Shape).Idx) a).isLt; omega⟩]
      refine congrArg some (funext fun a => Fin.ext ?_)
      show ((ScatterDims.mk [0, 1] [] [0] 0 hwf).start j idx a + (ScatterDims.mk [0, 1] [] [0] 0 hwf).window j a).toNat = _
      rw [hs, hw]
      omega) (ix2 r k)
  exact h

end Cert.Alg

namespace Cert.KernelIdeal.Inputs

open Cert.KernelIdeal Cert.KernelIdeal.Gen
open Idealize.ShloMosaic Idealize.ShloMosaic.TcCoe Idealize.ShloMosaic.StableHlo Idealize.ShloMosaic.Tactic

variable (m : (ℓ : Loc nD τ sig) → Buf (Elt Ideal) ℓ)

/-! ## The whole arrays -/

/-- A window that is its whole array, at block index zero, reads the array in place. -/
theorem emb_self (w : Pipeline.Window sig grid0) (h : ∀ a, w.index t0_0 a = 0) (y : (w.xblock (grid0.coords t0_0)).Idx) (a) :
    ((w.rect t0_0).emb y a).val = (y a).val :=
  Pipeline.Window.rect_emb_val_of_index_zero _ _ _ (h a) _

theorem blk0 (X : Valuation τ sig (Elt Ideal)) (z) : ((cfg0.win 0).blk t0_0).view.read (Elt Ideal) (X (Proc.devRef .tc (Pipeline.arrRef spec0 0))) z
    = X (Proc.devRef .tc main_v3) z :=
  congrArg (X (Proc.devRef .tc main_v3)) (funext fun a => Fin.ext (emb_self (cfg0.win 0) (fun _ => rfl) z a))
theorem blk1 (X : Valuation τ sig (Elt Ideal)) (z) : ((cfg0.win 1).blk t0_0).view.read (Elt Ideal) (X (Proc.devRef .tc (Pipeline.arrRef spec0 1))) z
    = X (Proc.devRef .tc main_v6) z :=
  congrArg (X (Proc.devRef .tc main_v6)) (funext fun a => Fin.ext (emb_self (cfg0.win 1) (fun _ => rfl) z a))
theorem blk2 (X : Valuation τ sig (Elt Ideal)) (z) : ((cfg0.win 2).blk t0_0).view.read (Elt Ideal) (X (Proc.devRef .tc (Pipeline.arrRef spec0 2))) z
    = X (Proc.devRef .tc main_v9) z :=
  congrArg (X (Proc.devRef .tc main_v9)) (funext fun a => Fin.ext (emb_self (cfg0.win 2) (fun _ => rfl) z a))
theorem blk3 (X : Valuation τ sig (Elt Ideal)) (z) : ((cfg0.win 3).blk t0_0).view.read (Elt Ideal) (X (Proc.devRef .tc (Pipeline.arrRef spec0 3))) z
    = X (Proc.devRef .tc main_arg3) z :=
  congrArg (X (Proc.devRef .tc main_arg3)) (funext fun a => Fin.ext (emb_self (cfg0.win 3) (fun _ => rfl) z a))
theorem blk4 (X : Valuation τ sig (Elt Ideal)) (z) : ((cfg0.win 4).blk t0_0).view.read (Elt Ideal) (X (Proc.devRef .tc (Pipeline.arrRef spec0 4))) z
    = X (Proc.devRef .tc main_v10) z :=
  congrArg (X (Proc.devRef .tc main_v10)) (funext fun a => Fin.ext (emb_self (cfg0.win 4) (fun _ => rfl) z a))
theorem blk5 (X : Valuation τ sig (Elt Ideal)) (z) : ((cfg0.win 5).blk t0_0).view.read (Elt Ideal) (X (Proc.devRef .tc (Pipeline.arrRef spec0 5))) z
    = X (Proc.devRef .tc main_arg5) z :=
  congrArg (X (Proc.devRef .tc main_arg5)) (funext fun a => Fin.ext (emb_self (cfg0.win 5) (fun _ => rfl) z a))
theorem blk6 (X : Valuation τ sig (Elt Ideal)) (z) : ((cfg0.win 6).blk t0_0).view.read (Elt Ideal) (X (Proc.devRef .tc (Pipeline.arrRef spec0 6))) z
    = X (Proc.devRef .tc main_v11) z :=
  congrArg (X (Proc.devRef .tc main_v11)) (funext fun a => Fin.ext (emb_self (cfg0.win 6) (fun _ => rfl) z a))
theorem blk7 (X : Valuation τ sig (Elt Ideal)) (z) : ((cfg0.win 7).blk t0_0).view.read (Elt Ideal) (X (Proc.devRef .tc (Pipeline.arrRef spec0 7))) z
    = X (Proc.devRef .tc main_arg7) z :=
  congrArg (X (Proc.devRef .tc main_arg7)) (funext fun a => Fin.ext (emb_self (cfg0.win 7) (fun _ => rfl) z a))
theorem blk8 (X : Valuation τ sig (Elt Ideal)) (z) : ((cfg0.win 8).blk t0_0).view.read (Elt Ideal) (X (Proc.devRef .tc (Pipeline.arrRef spec0 8))) z
    = X (Proc.devRef .tc main_v12) z :=
  congrArg (X (Proc.devRef .tc main_v12)) (funext fun a => Fin.ext (emb_self (cfg0.win 8) (fun _ => rfl) z a))
theorem blk9 (X : Valuation τ sig (Elt Ideal)) (z) : ((cfg0.win 9).blk t0_0).view.read (Elt Ideal) (X (Proc.devRef .tc (Pipeline.arrRef spec0 9))) z
    = X (Proc.devRef .tc main_arg9) z :=
  congrArg (X (Proc.devRef .tc main_arg9)) (funext fun a => Fin.ext (emb_self (cfg0.win 9) (fun _ => rfl) z a))
theorem blk10 (X : Valuation τ sig (Elt Ideal)) (z) : ((cfg0.win 10).blk t0_0).view.read (Elt Ideal) (X (Proc.devRef .tc (Pipeline.arrRef spec0 10))) z
    = X (Proc.devRef .tc main_v13) z :=
  congrArg (X (Proc.devRef .tc main_v13)) (funext fun a => Fin.ext (emb_self (cfg0.win 10) (fun _ => rfl) z a))

/-! ## The arrays the host prepares -/

variable (X : Valuation τ sig (Elt Ideal))

theorem read_v3 (r : Fin 1000) (k : Fin 150) : after hostOps0 X (Proc.devRef .tc main_v3) (ix2 (Alg.up r) k)
    = X (Proc.devRef .tc main_arg1) (ix2 r ⟨k.val, by omega⟩) := by
  have e : after hostOps0 X (Proc.devRef .tc main_v3) = Host.scatter scatter_S1024x150_S1_S1000x150_01_n_0_0 (fun _ b => b)
      (broadcastInDim S1024x150 ![] bcast_S_S1024x150 (constant (F := Ideal) S_ .f32 0x00000000#32))
      (broadcastInDim S1 ![] bcast_S_S1 (constantI S_ 32 0#32))
      (extractStridedSlice S1000x150 ![0, 0] (X (Proc.devRef .tc main_arg1)) slices_S1000x151_S1000x150_0_0) := by
    after_reads_simp
  rw [e]
  refine (Alg.scatter_rows _ _ _ (fun _ => rfl) _ r k).trans ?_
  pointwise []
theorem read_v6 (r : Fin 1000) (k : Fin 1024) : after hostOps0 X (Proc.devRef .tc main_v6) (ix2 (Alg.up r) k)
    = X (Proc.devRef .tc main_arg2) (ix2 r k) := by
  have e : after hostOps0 X (Proc.devRef .tc main_v6) = Host.scatter scatter_S1024x1024_S1_S1000x1024_01_n_0_0 (fun _ b => b)
      (broadcastInDim S1024x1024 ![] bcast_S_S1024x1024 (constant (F := Ideal) S_ .f32 0x00000000#32))
      (broadcastInDim S1 ![] bcast_S_S1 (constantI S_ 32 0#32)) (X (Proc.devRef .tc main_arg2)) := by
    after_reads_simp
  rw [e]
  exact Alg.scatter_rows _ _ _ (fun _ => rfl) _ r k
theorem read_v9 (r : Fin 1000) (k : Fin 4) : after hostOps0 X (Proc.devRef .tc main_v9) (ix2 (Alg.up r) k)
    = X (Proc.devRef .tc main_arg0) (ix2 r k) := by
  have e : after hostOps0 X (Proc.devRef .tc main_v9) = Host.scatter scatter_S1024x4_S1_S1000x4_01_n_0_0 (fun _ b => b)
      (broadcastInDim S1024x4 ![] bcast_S_S1024x4 (constant (F := Ideal) S_ .f32 0x00000000#32))
      (broadcastInDim S1 ![] bcast_S_S1 (constantI S_ 32 0#32)) (X (Proc.devRef .tc main_arg0)) := by
    after_reads_simp
  rw [e]
  exact Alg.scatter_rows _ _ _ (fun _ => rfl) _ r k

theorem row_of (x : FVec Ideal S256 .f32) (k : Fin 256) : shapeCast S1x256 x shapeCasts_S256_S1x256 (ix2 0 k) = x (ix1 k) := by
  pointwise []
theorem row_of' (x : FVec Ideal S1024 .f32) (k : Fin 1024) : shapeCast S1x1024 x shapeCasts_S1024_S1x1024 (ix2 0 k) = x (ix1 k) := by
  pointwise []
theorem read_v10 (k : Fin 256) : after hostOps0 X (Proc.devRef .tc main_v10) (ix2 0 k) = X (Proc.devRef .tc main_arg4) (ix1 k) := by
  have e : after hostOps0 X (Proc.devRef .tc main_v10) = shapeCast S1x256 (X (Proc.devRef .tc main_arg4)) shapeCasts_S256_S1x256 := by
    after_reads_simp
    rfl
  rw [e]
  exact row_of _ k
theorem read_v11 (k : Fin 1024) : after hostOps0 X (Proc.devRef .tc main_v11) (ix2 0 k) = X (Proc.devRef .tc main_arg6) (ix1 k) := by
  have e : after hostOps0 X (Proc.devRef .tc main_v11) = shapeCast S1x1024 (X (Proc.devRef .tc main_arg6)) shapeCasts_S1024_S1x1024 := by
    after_reads_simp
    rfl
  rw [e]
  exact row_of' _ k
theorem read_v12 (k : Fin 256) : after hostOps0 X (Proc.devRef .tc main_v12) (ix2 0 k) = X (Proc.devRef .tc main_arg8) (ix1 k) := by
  have e : after hostOps0 X (Proc.devRef .tc main_v12) = shapeCast S1x256 (X (Proc.devRef .tc main_arg8)) shapeCasts_S256_S1x256 := by
    after_reads_simp
    rfl
  rw [e]
  exact row_of _ k
theorem read_v13 (k : Fin 1024) : after hostOps0 X (Proc.devRef .tc main_v13) (ix2 0 k) = X (Proc.devRef .tc main_arg10) (ix1 k) := by
  have e : after hostOps0 X (Proc.devRef .tc main_v13) = shapeCast S1x1024 (X (Proc.devRef .tc main_arg10)) shapeCasts_S1024_S1x1024 := by
    after_reads_simp
    rfl
  rw [e]
  exact row_of' _ k

/-! ## The body's inputs -/

/-- What the launch finds: the memory after the host's preparation. -/
@[irreducible] def entry (c : Dev nD) : Valuation τ sig (Elt Ideal) := after hostOps0 (fun b => m (c, b))

theorem V0_eq (c : Dev nD) : V0 m c = entry m c := by
  unfold entry
  simp only [V0, List.flatten_cons, List.flatten_nil, List.append_nil]

theorem iblk_eq (c : Dev nD) (w : Fin cfg0.W) : iblk m c w t0_0
    = ((cfg0.win w).blk t0_0).view.read (Elt Ideal) (entry m c (Proc.devRef .tc (Pipeline.arrRef spec0 w))) := by
  unfold iblk V
  rw [V0_eq]

theorem ins_x (c : Dev nD) (r : Fin 1000) (k : Fin 150) : (Launch.ins m c).x (ix2 (Alg.up r) k) = m ((c : Thread nD τ).loc main_arg1) (ix2 r ⟨k.val, by omega⟩) := by
  dsimp only [Launch.ins]
  exact (congrFun (iblk_eq m c 0) _).trans ((blk0 _ _).trans (by unfold entry; exact read_v3 _ r k))
theorem ins_f (c : Dev nD) (r : Fin 1000) (k : Fin 1024) : (Launch.ins m c).f (ix2 (Alg.up r) k) = m ((c : Thread nD τ).loc main_arg2) (ix2 r k) := by
  dsimp only [Launch.ins]
  exact (congrFun (iblk_eq m c 1) _).trans ((blk1 _ _).trans (by unfold entry; exact read_v6 _ r k))
theorem ins_b (c : Dev nD) (r : Fin 1000) (k : Fin 4) : (Launch.ins m c).b (ix2 (Alg.up r) k) = m ((c : Thread nD τ).loc main_arg0) (ix2 r k) := by
  dsimp only [Launch.ins]
  exact (congrFun (iblk_eq m c 2) _).trans ((blk2 _ _).trans (by unfold entry; exact read_v9 _ r k))
theorem ins_b1 (c : Dev nD) (k : Fin 256) : (Launch.ins m c).b1 (ix2 0 k) = m ((c : Thread nD τ).loc main_arg4) (ix1 k) := by
  dsimp only [Launch.ins]
  exact (congrFun (iblk_eq m c 4) _).trans ((blk4 _ _).trans (by unfold entry; exact read_v10 _ k))
theorem ins_b2 (c : Dev nD) (k : Fin 1024) : (Launch.ins m c).b2 (ix2 0 k) = m ((c : Thread nD τ).loc main_arg6) (ix1 k) := by
  dsimp only [Launch.ins]
  exact (congrFun (iblk_eq m c 6) _).trans ((blk6 _ _).trans (by unfold entry; exact read_v11 _ k))
theorem ins_b3 (c : Dev nD) (k : Fin 256) : (Launch.ins m c).b3 (ix2 0 k) = m ((c : Thread nD τ).loc main_arg8) (ix1 k) := by
  dsimp only [Launch.ins]
  exact (congrFun (iblk_eq m c 8) _).trans ((blk8 _ _).trans (by unfold entry; exact read_v12 _ k))
theorem ins_b4 (c : Dev nD) (k : Fin 1024) : (Launch.ins m c).b4 (ix2 0 k) = m ((c : Thread nD τ).loc main_arg10) (ix1 k) := by
  dsimp only [Launch.ins]
  exact (congrFun (iblk_eq m c 10) _).trans ((blk10 _ _).trans (by unfold entry; exact read_v13 _ k))
theorem ins_w1 (c : Dev nD) (z) : (Launch.ins m c).w1 z = m ((c : Thread nD τ).loc main_arg3) z := by
  dsimp only [Launch.ins]
  exact (congrFun (iblk_eq m c 3) z).trans ((blk3 _ z).trans (by have h := V_main_arg3 m c; unfold V at h; rw [V0_eq] at h; rw [h]))
theorem ins_w2 (c : Dev nD) (z) : (Launch.ins m c).w2 z = m ((c : Thread nD τ).loc main_arg5) z := by
  dsimp only [Launch.ins]
  exact (congrFun (iblk_eq m c 5) z).trans ((blk5 _ z).trans (by have h := V_main_arg5 m c; unfold V at h; rw [V0_eq] at h; rw [h]))
theorem ins_w3 (c : Dev nD) (z) : (Launch.ins m c).w3 z = m ((c : Thread nD τ).loc main_arg7) z := by
  dsimp only [Launch.ins]
  exact (congrFun (iblk_eq m c 7) z).trans ((blk7 _ z).trans (by have h := V_main_arg7 m c; unfold V at h; rw [V0_eq] at h; rw [h]))
theorem ins_w4 (c : Dev nD) (z) : (Launch.ins m c).w4 z = m ((c : Thread nD τ).loc main_arg9) z := by
  dsimp only [Launch.ins]
  exact (congrFun (iblk_eq m c 9) z).trans ((blk9 _ z).trans (by have h := V_main_arg9 m c; unfold V at h; rw [V0_eq] at h; rw [h]))

end Cert.KernelIdeal.Inputs
-- ==== Proof.Algebraic.lean ====
/- The value claim: from memories agreeing on the arguments the kernel and the reference end with equal results. -/
module

public import proofs.«01_k».proof.Proof.Values
public import proofs.«01_k».proof.Proof.Inputs

@[expose] public section

set_option maxRecDepth 16384

noncomputable section

namespace Cert.Alg

open Idealize.ShloMosaic Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- What the kernel's run leaves, read at its results and arguments. -/
theorem kernel_run (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v17) = KernelIdeal.Outputs.twoBoxes (KernelIdeal.Launch.ins m c).o11 (KernelIdeal.Launch.ins m c).o12
      ∧ r.2.mem ((c.tc : Thread KernelIdeal.nD KernelIdeal.τ).loc KernelIdeal.main_v21) = KernelIdeal.Outputs.threeFeats (KernelIdeal.Launch.ins m c).o13 (KernelIdeal.Launch.ins m c).o14 (KernelIdeal.Launch.ins m c).o15
      ∧ r.2.mem ((c.tc : Thread KernelIdeal.nD KernelIdeal.τ).loc KernelIdeal.main_v22) = shapeCast KernelIdeal.S128 (KernelIdeal.Launch.ins m c).o16 KernelIdeal.Facts₀.shapeCasts_S1x128_S128
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)
      ∧ r.2.mem ((c.tc : Thread KernelIdeal.nD KernelIdeal.τ).loc KernelIdeal.main_arg9) = m ((c.tc : Thread KernelIdeal.nD KernelIdeal.τ).loc KernelIdeal.main_arg9)
      ∧ r.2.mem ((c.tc : Thread KernelIdeal.nD KernelIdeal.τ).loc KernelIdeal.main_arg10) = m ((c.tc : Thread KernelIdeal.nD KernelIdeal.τ).loc KernelIdeal.main_arg10)) := by
  refine (θ_run KernelIdeal.defs _ _).mono (fun r h c => ?_) (KernelIdeal.Launch.run m g fun c => KernelIdeal.Read.sound _)
  have h := h.1
  exact ⟨((h c).2 KernelIdeal.main_v17 (Pipeline.mem_restRefs_of KernelIdeal.main_v17 (by decide) (by decide))).trans (KernelIdeal.Outputs.final_v17 m c),
    ((h c).2 KernelIdeal.main_v21 (Pipeline.mem_restRefs_of KernelIdeal.main_v21 (by decide) (by decide))).trans (KernelIdeal.Outputs.final_v21 m c),
    ((h c).2 KernelIdeal.main_v22 (Pipeline.mem_restRefs_of KernelIdeal.main_v22 (by decide) (by decide))).trans (KernelIdeal.Outputs.final_v22 m c),
    ((h c).2 KernelIdeal.main_arg0 (Pipeline.mem_restRefs_of KernelIdeal.main_arg0 (by decide) (by decide))).trans (KernelIdeal.Gen.W_main_arg0 m (KernelIdeal.Launch.dats m) c),
    ((h c).2 KernelIdeal.main_arg1 (Pipeline.mem_restRefs_of KernelIdeal.main_arg1 (by decide) (by decide))).trans (KernelIdeal.Gen.W_main_arg1 m (KernelIdeal.Launch.dats m) c),
    ((h c).2 KernelIdeal.main_arg2 (Pipeline.mem_restRefs_of KernelIdeal.main_arg2 (by decide) (by decide))).trans (KernelIdeal.Gen.W_main_arg2 m (KernelIdeal.Launch.dats m) c),
    ((h c).1 3).trans (((KernelIdeal.Launch.dats m 0 c).arrAt_in 3 rfl _).trans ((KernelIdeal.Launch.A_eq m c 3).trans (KernelIdeal.Gen.V_main_arg3 m c))),
    ((h c).2 KernelIdeal.main_arg4 (Pipeline.mem_restRefs_of KernelIdeal.main_arg4 (by decide) (by decide))).trans (KernelIdeal.Gen.W_main_arg4 m (KernelIdeal.Launch.dats m) c),
    ((h c).1 5).trans (((KernelIdeal.Launch.dats m 0 c).arrAt_in 5 rfl _).trans ((KernelIdeal.Launch.A_eq m c 5).trans (KernelIdeal.Gen.V_main_arg5 m c))),
    ((h c).2 KernelIdeal.main_arg6 (Pipeline.mem_restRefs_of KernelIdeal.main_arg6 (by decide) (by decide))).trans (KernelIdeal.Gen.W_main_arg6 m (KernelIdeal.Launch.dats m) c),
    ((h c).1 7).trans (((KernelIdeal.Launch.dats m 0 c).arrAt_in 7 rfl _).trans ((KernelIdeal.Launch.A_eq m c 7).trans (KernelIdeal.Gen.V_main_arg7 m c))),
    ((h c).2 KernelIdeal.main_arg8 (Pipeline.mem_restRefs_of KernelIdeal.main_arg8 (by decide) (by decide))).trans (KernelIdeal.Gen.W_main_arg8 m (KernelIdeal.Launch.dats m) c),
    ((h c).1 9).trans (((KernelIdeal.Launch.dats m 0 c).arrAt_in 9 rfl _).trans ((KernelIdeal.Launch.A_eq m c 9).trans (KernelIdeal.Gen.V_main_arg9 m c))),
    ((h c).2 KernelIdeal.main_arg10 (Pipeline.mem_restRefs_of KernelIdeal.main_arg10 (by decide) (by decide))).trans (KernelIdeal.Gen.W_main_arg10 m (KernelIdeal.Launch.dats m) c)⟩

/-- The body's inputs hold the arguments. -/
theorem agree (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)) :
    Agree (KernelIdeal.Launch.ins m c) (ReferenceIdeal.Read.argsOf m' c) := by
  obtain ⟨h0, h1, h2, h3, h4, h5, h6, h7, h8, h9, h10⟩ := h
  exact
  { x := fun r k => (KernelIdeal.Inputs.ins_x m c r k).trans (congrFun h1.symm _)
    f := fun r k => (KernelIdeal.Inputs.ins_f m c r k).trans (congrFun h2.symm _)
    b := fun r k => (KernelIdeal.Inputs.ins_b m c r k).trans (congrFun h0.symm _)
    w1 := funext fun z => (KernelIdeal.Inputs.ins_w1 m c z).trans (congrFun h3.symm z)
    b1 := fun k => (KernelIdeal.Inputs.ins_b1 m c k).trans (congrFun h4.symm _)
    w2 := funext fun z => (KernelIdeal.Inputs.ins_w2 m c z).trans (congrFun h5.symm z)
    b2 := fun k => (KernelIdeal.Inputs.ins_b2 m c k).trans (congrFun h6.symm _)
    w3 := funext fun z => (KernelIdeal.Inputs.ins_w3 m c z).trans (congrFun h7.symm z)
    b3 := fun k => (KernelIdeal.Inputs.ins_b3 m c k).trans (congrFun h8.symm _)
    w4 := funext fun z => (KernelIdeal.Inputs.ins_w4 m c z).trans (congrFun h9.symm z)
    b4 := fun k => (KernelIdeal.Inputs.ins_b4 m c k).trans (congrFun h10.symm _) }

/-- From memories agreeing on the arguments both programs run, end with equal results — the boxes, the features and the
    scores, element by element — and leave their arguments as they were. -/
theorem algebraic : Cert.algebraic_KernelIdeal_ReferenceIdeal := by
  intro m g m' g' _ hm
  refine ⟨fun c => KernelIdeal.Outputs.twoBoxes (KernelIdeal.Launch.ins m c).o11 (KernelIdeal.Launch.ins m c).o12,
    fun c => KernelIdeal.Outputs.threeFeats (KernelIdeal.Launch.ins m c).o13 (KernelIdeal.Launch.ins m c).o14 (KernelIdeal.Launch.ins m c).o15,
    fun c => shapeCast KernelIdeal.S128 (KernelIdeal.Launch.ins m c).o16 KernelIdeal.Facts₀.shapeCasts_S1x128_S128,
    kernel_run m g, ?_⟩
  refine (θ_run ReferenceIdeal.defs _ _).mono (fun r h c => ?_) (ReferenceIdeal.Value.run_fold m' g')
  have a := agree m m' c (hm c)
  have k : ∀ b ∈ ReferenceIdeal.Frames.args, (Proc.devRef .tc b : DevRef ReferenceIdeal.τ ReferenceIdeal.sig).isScoped = false →
      r.2.mem ((c.tc : Thread ReferenceIdeal.nD ReferenceIdeal.τ).loc b) = m' ((c.tc : Thread ReferenceIdeal.nD ReferenceIdeal.τ).loc b) := fun b hb hs =>
    (h c b hs).trans (ReferenceIdeal.Frames.final_kept m' c b (ReferenceIdeal.Frames.args_not_written b hb))
  exact ⟨(h c ReferenceIdeal.main_v110 rfl).trans ((ReferenceIdeal.Read.final_boxes m' c).trans a.boxes.symm),
    (h c ReferenceIdeal.main_v134 rfl).trans ((ReferenceIdeal.Read.final_feats m' c).trans a.feats.symm),
    (h c ReferenceIdeal.main_v135 rfl).trans ((ReferenceIdeal.Read.final_vals m' c).trans a.scores.symm),
    k _ (by decide) rfl, k _ (by decide) rfl, k _ (by decide) rfl, k _ (by decide) rfl, k _ (by decide) rfl, k _ (by decide) rfl,
    k _ (by decide) rfl, k _ (by decide) rfl, k _ (by decide) rfl, k _ (by decide) rfl, k _ (by decide) rfl⟩

end Cert.Alg

end
-- ==== Proof.lean ====
/- The proof of the claims: the two programs run and leave their arguments and semaphores as they were,
   and from memories agreeing on the arguments they end with equal results. -/
module

public import proofs.«01_k».proof.Defs
public import proofs.«01_k».proof.Proof.Frames
public import proofs.«01_k».proof.Proof.Algebraic

@[expose] public section

noncomputable section

namespace Cert.Proof

/-- Every claim of this certificate holds. -/
theorem claim : Cert.Claim :=
  ⟨Cert.KernelIdeal.Gen.facts, Cert.ReferenceIdeal.Gen.facts, Cert.KernelIdeal.Frames.frame,
    Cert.ReferenceIdeal.Frames.frame, Cert.Alg.algebraic⟩

end Cert.Proof

end
